-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 2048]⟩ ⟨3, ![4, 1024, 2048]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![1024, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x2048 : Shape := ⟨3, ![1, 1024, 2048]⟩
abbrev S1024x512 : Shape := ⟨2, ![1024, 512]⟩
abbrev S4x1024x256 : Shape := ⟨3, ![4, 1024, 256]⟩
abbrev S4x2 : Shape := ⟨2, ![4, 2]⟩
abbrev S_ : Shape := ⟨0, ![]⟩
abbrev S1x512x256 : Shape := ⟨3, ![1, 512, 256]⟩
abbrev S512x256 : Shape := ⟨2, ![512, 256]⟩
abbrev S1x1 : Shape := ⟨2, ![1, 1]⟩

abbrev nBuf : Space → Nat
  | .hbm => 2
  | .vmem => 4
  | .smem => 0
  | _ => 0

abbrev bufTy : (tb : Table) → Fin (tcTables nBuf tb) → BufTy
  | .hbm, ⟨0, _⟩ => ⟨S1x1024x2048, .bf16⟩
  | .hbm, ⟨1, _⟩ => ⟨S1024x512, .f32⟩
  | .local _ .vmem, ⟨0, _⟩ => ⟨S1x1024x2048, .bf16⟩
  | .local _ .vmem, ⟨1, _⟩ => ⟨S1024x512, .f32⟩
  | .local _ .vmem, ⟨2, _⟩ => ⟨S4x1024x256, .bf16⟩
  | .local _ .vmem, ⟨3, _⟩ => ⟨S4x1024x256, .bf16⟩
  | _, _ => ⟨S1x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 3 → Nat :=
  let c0 : Index := 0#32
  let c0_35 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_20 : BitVec 32 := 4#32
  let v31 : BitVec 32 := Scalar.addi v2 c4_i32_20
  let c1_i32_21 : BitVec 32 := 1#32
  let v32 : BitVec 32 := Scalar.subi v31 c1_i32_21
  let c4_i32_22 : BitVec 32 := 4#32
  let c0_i32_23 : BitVec 32 := 0#32
  let v33 : BitVec 1 := Scalar.cmpi .eq c4_i32_22 c0_i32_23
  let c1_i32_24 : BitVec 32 := 1#32
  let v34 : BitVec 32 := Scalar.select v33 c1_i32_24 c4_i32_22
  let v35 : BitVec 32 := Scalar.remsi v32 v34
  let c0_i32_26 : BitVec 32 := 0#32
  let v37 : BitVec 1 := Scalar.cmpi .slt v35 c0_i32_26
  let c0_i32_27 : BitVec 32 := 0#32
  let v38 : BitVec 1 := Scalar.cmpi .slt v34 c0_i32_27
  let v39 : BitVec 1 := Scalar.xori v37 v38
  let c0_i32_25 : BitVec 32 := 0#32
  let v36 : BitVec 1 := Scalar.cmpi .ne v35 c0_i32_25
  let v40 : BitVec 1 := Scalar.andi v39 v36
  let v41 : BitVec 32 := Scalar.addi v35 v34
  let v42 : BitVec 32 := Scalar.select v40 v41 v35
  let c512_i32 : BitVec 32 := 512#32
  let v54 : BitVec 32 := Scalar.muli v42 c512_i32
  let v55 : Index := Scalar.indexCast v54
  ![0, 0, v55.toNat]
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_45 : BitVec 32 := 1#32
  let v61 : BitVec 32 := Scalar.muli v25 c1_i32_45
  let v62 : BitVec 32 := Scalar.addi c0_i32_46 v61
  v62.toNat
def k0_off2 (d0 : Dev nD) : Fin 3 → Nat :=
  let c0_52 : Index := 0#32
  let c0_53 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c512_i32_51 : BitVec 32 := 512#32
  let v71 : BitVec 32 := Scalar.muli v53 c512_i32_51
  let c256_i32 : BitVec 32 := 256#32
  let v72 : BitVec 32 := Scalar.addi v71 c256_i32
  let v73 : Index := Scalar.indexCast v72
  ![0, 0, v73.toNat]
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_63 : BitVec 32 := 1#32
  let v79 : BitVec 32 := Scalar.muli v14 c1_i32_63
  let v80 : BitVec 32 := Scalar.addi c0_i32_64 v79
  v80.toNat
def k0_off3 (d0 : Dev nD) : Fin 3 → Nat :=
  let c0_70 : Index := 0#32
  let c512 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_20 : BitVec 32 := 4#32
  let v31 : BitVec 32 := Scalar.addi v2 c4_i32_20
  let c1_i32_21 : BitVec 32 := 1#32
  let v32 : BitVec 32 := Scalar.subi v31 c1_i32_21
  let c4_i32_22 : BitVec 32 := 4#32
  let c0_i32_23 : BitVec 32 := 0#32
  let v33 : BitVec 1 := Scalar.cmpi .eq c4_i32_22 c0_i32_23
  let c1_i32_24 : BitVec 32 := 1#32
  let v34 : BitVec 32 := Scalar.select v33 c1_i32_24 c4_i32_22
  let v35 : BitVec 32 := Scalar.remsi v32 v34
  let c0_i32_26 : BitVec 32 := 0#32
  let v37 : BitVec 1 := Scalar.cmpi .slt v35 c0_i32_26
  let c0_i32_27 : BitVec 32 := 0#32
  let v38 : BitVec 1 := Scalar.cmpi .slt v34 c0_i32_27
  let v39 : BitVec 1 := Scalar.xori v37 v38
  let c0_i32_25 : BitVec 32 := 0#32
  let v36 : BitVec 1 := Scalar.cmpi .ne v35 c0_i32_25
  let v40 : BitVec 1 := Scalar.andi v39 v36
  let v41 : BitVec 32 := Scalar.addi v35 v34
  let v42 : BitVec 32 := Scalar.select v40 v41 v35
  let c512_i32_69 : BitVec 32 := 512#32
  let v89 : BitVec 32 := Scalar.muli v42 c512_i32_69
  let v90 : Index := Scalar.indexCast v89
  ![0, 512, v90.toNat]
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_80 : BitVec 32 := 1#32
  let v96 : BitVec 32 := Scalar.muli v25 c1_i32_80
  let v97 : BitVec 32 := Scalar.addi c0_i32_81 v96
  v97.toNat
def k0_off4 (d0 : Dev nD) : Fin 3 → Nat :=
  let c0_88 : Index := 0#32
  let c512_89 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c512_i32_86 : BitVec 32 := 512#32
  let v106 : BitVec 32 := Scalar.muli v53 c512_i32_86
  let c256_i32_87 : BitVec 32 := 256#32
  let v107 : BitVec 32 := Scalar.addi v106 c256_i32_87
  let v108 : Index := Scalar.indexCast v107
  ![0, 512, v108.toNat]
def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_99 : BitVec 32 := 1#32
  let v114 : BitVec 32 := Scalar.muli v14 c1_i32_99
  let v115 : BitVec 32 := Scalar.addi c0_i32_100 v114
  v115.toNat
def k0_off5 (d0 : Dev nD) (c1_i32_106 : BitVec 32) : Fin 3 → Nat :=
  let c0_136 : Index := 0#32
  let c0_137 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v124 : BitVec 32 := Scalar.addi v2 c8_i32
  let c1_i32_105 : BitVec 32 := 1#32
  let v125 : BitVec 32 := Scalar.subi v124 c1_i32_105
  let v126 : BitVec 32 := Scalar.subi v125 c1_i32_106
  let c4_i32_107 : BitVec 32 := 4#32
  let c0_i32_108 : BitVec 32 := 0#32
  let v127 : BitVec 1 := Scalar.cmpi .eq c4_i32_107 c0_i32_108
  let c1_i32_109 : BitVec 32 := 1#32
  let v128 : BitVec 32 := Scalar.select v127 c1_i32_109 c4_i32_107
  let v129 : BitVec 32 := Scalar.remsi v126 v128
  let c0_i32_111 : BitVec 32 := 0#32
  let v131 : BitVec 1 := Scalar.cmpi .slt v129 c0_i32_111
  let c0_i32_112 : BitVec 32 := 0#32
  let v132 : BitVec 1 := Scalar.cmpi .slt v128 c0_i32_112
  let v133 : BitVec 1 := Scalar.xori v131 v132
  let c0_i32_110 : BitVec 32 := 0#32
  let v130 : BitVec 1 := Scalar.cmpi .ne v129 c0_i32_110
  let v134 : BitVec 1 := Scalar.andi v133 v130
  let v135 : BitVec 32 := Scalar.addi v129 v128
  let v136 : BitVec 32 := Scalar.select v134 v135 v129
  let c512_i32_135 : BitVec 32 := 512#32
  let v159 : BitVec 32 := Scalar.muli v136 c512_i32_135
  let v160 : Index := Scalar.indexCast v159
  ![0, 0, v160.toNat]
def k0_dev7 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_147 : BitVec 32 := 1#32
  let v167 : BitVec 32 := Scalar.muli v25 c1_i32_147
  let v168 : BitVec 32 := Scalar.addi c0_i32_148 v167
  v168.toNat
def k0_off6 (d0 : Dev nD) (c1_i32_114 : BitVec 32) : Fin 3 → Nat :=
  let c0_170 : Index := 0#32
  let c0_171 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_113 : BitVec 32 := 1#32
  let v137 : BitVec 32 := Scalar.addi v2 c1_i32_113
  let v138 : BitVec 32 := Scalar.addi v137 c1_i32_114
  let c4_i32_115 : BitVec 32 := 4#32
  let c0_i32_116 : BitVec 32 := 0#32
  let v139 : BitVec 1 := Scalar.cmpi .eq c4_i32_115 c0_i32_116
  let c1_i32_117 : BitVec 32 := 1#32
  let v140 : BitVec 32 := Scalar.select v139 c1_i32_117 c4_i32_115
  let v141 : BitVec 32 := Scalar.remsi v138 v140
  let c0_i32_119 : BitVec 32 := 0#32
  let v143 : BitVec 1 := Scalar.cmpi .slt v141 c0_i32_119
  let c0_i32_120 : BitVec 32 := 0#32
  let v144 : BitVec 1 := Scalar.cmpi .slt v140 c0_i32_120
  let v145 : BitVec 1 := Scalar.xori v143 v144
  let c0_i32_118 : BitVec 32 := 0#32
  let v142 : BitVec 1 := Scalar.cmpi .ne v141 c0_i32_118
  let v146 : BitVec 1 := Scalar.andi v145 v142
  let v147 : BitVec 32 := Scalar.addi v141 v140
  let v148 : BitVec 32 := Scalar.select v146 v147 v141
  let c512_i32_168 : BitVec 32 := 512#32
  let v187 : BitVec 32 := Scalar.muli v148 c512_i32_168
  let c256_i32_169 : BitVec 32 := 256#32
  let v188 : BitVec 32 := Scalar.addi v187 c256_i32_169
  let v189 : Index := Scalar.indexCast v188
  ![0, 0, v189.toNat]
def k0_dev8 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_181 : BitVec 32 := 1#32
  let v196 : BitVec 32 := Scalar.muli v14 c1_i32_181
  let v197 : BitVec 32 := Scalar.addi c0_i32_182 v196
  v197.toNat
def k0_off7 (d0 : Dev nD) (c1_i32_106 : BitVec 32) : Fin 3 → Nat :=
  let c0_203 : Index := 0#32
  let c512_204 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v124 : BitVec 32 := Scalar.addi v2 c8_i32
  let c1_i32_105 : BitVec 32 := 1#32
  let v125 : BitVec 32 := Scalar.subi v124 c1_i32_105
  let v126 : BitVec 32 := Scalar.subi v125 c1_i32_106
  let c4_i32_107 : BitVec 32 := 4#32
  let c0_i32_108 : BitVec 32 := 0#32
  let v127 : BitVec 1 := Scalar.cmpi .eq c4_i32_107 c0_i32_108
  let c1_i32_109 : BitVec 32 := 1#32
  let v128 : BitVec 32 := Scalar.select v127 c1_i32_109 c4_i32_107
  let v129 : BitVec 32 := Scalar.remsi v126 v128
  let c0_i32_111 : BitVec 32 := 0#32
  let v131 : BitVec 1 := Scalar.cmpi .slt v129 c0_i32_111
  let c0_i32_112 : BitVec 32 := 0#32
  let v132 : BitVec 1 := Scalar.cmpi .slt v128 c0_i32_112
  let v133 : BitVec 1 := Scalar.xori v131 v132
  let c0_i32_110 : BitVec 32 := 0#32
  let v130 : BitVec 1 := Scalar.cmpi .ne v129 c0_i32_110
  let v134 : BitVec 1 := Scalar.andi v133 v130
  let v135 : BitVec 32 := Scalar.addi v129 v128
  let v136 : BitVec 32 := Scalar.select v134 v135 v129
  let c512_i32_202 : BitVec 32 := 512#32
  let v216 : BitVec 32 := Scalar.muli v136 c512_i32_202
  let v217 : Index := Scalar.indexCast v216
  ![0, 512, v217.toNat]
def k0_dev9 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_214 : BitVec 32 := 1#32
  let v224 : BitVec 32 := Scalar.muli v25 c1_i32_214
  let v225 : BitVec 32 := Scalar.addi c0_i32_215 v224
  v225.toNat
def k0_off8 (d0 : Dev nD) (c1_i32_114 : BitVec 32) : Fin 3 → Nat :=
  let c0_237 : Index := 0#32
  let c512_238 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_113 : BitVec 32 := 1#32
  let v137 : BitVec 32 := Scalar.addi v2 c1_i32_113
  let v138 : BitVec 32 := Scalar.addi v137 c1_i32_114
  let c4_i32_115 : BitVec 32 := 4#32
  let c0_i32_116 : BitVec 32 := 0#32
  let v139 : BitVec 1 := Scalar.cmpi .eq c4_i32_115 c0_i32_116
  let c1_i32_117 : BitVec 32 := 1#32
  let v140 : BitVec 32 := Scalar.select v139 c1_i32_117 c4_i32_115
  let v141 : BitVec 32 := Scalar.remsi v138 v140
  let c0_i32_119 : BitVec 32 := 0#32
  let v143 : BitVec 1 := Scalar.cmpi .slt v141 c0_i32_119
  let c0_i32_120 : BitVec 32 := 0#32
  let v144 : BitVec 1 := Scalar.cmpi .slt v140 c0_i32_120
  let v145 : BitVec 1 := Scalar.xori v143 v144
  let c0_i32_118 : BitVec 32 := 0#32
  let v142 : BitVec 1 := Scalar.cmpi .ne v141 c0_i32_118
  let v146 : BitVec 1 := Scalar.andi v145 v142
  let v147 : BitVec 32 := Scalar.addi v141 v140
  let v148 : BitVec 32 := Scalar.select v146 v147 v141
  let c512_i32_235 : BitVec 32 := 512#32
  let v244 : BitVec 32 := Scalar.muli v148 c512_i32_235
  let c256_i32_236 : BitVec 32 := 256#32
  let v245 : BitVec 32 := Scalar.addi v244 c256_i32_236
  let v246 : Index := Scalar.indexCast v245
  ![0, 512, v246.toNat]
def k0_dev10 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_248 : BitVec 32 := 1#32
  let v253 : BitVec 32 := Scalar.muli v14 c1_i32_248
  let v254 : BitVec 32 := Scalar.addi c0_i32_249 v253
  v254.toNat
def k0_dev11 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_296 : BitVec 32 := 1#32
  let v306 : BitVec 32 := Scalar.muli v25 c1_i32_296
  let v307 : BitVec 32 := Scalar.addi c0_i32_297 v306
  v307.toNat
def k0_dev12 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_330 : BitVec 32 := 1#32
  let v335 : BitVec 32 := Scalar.muli v14 c1_i32_330
  let v336 : BitVec 32 := Scalar.addi c0_i32_331 v335
  v336.toNat
def k0_dev13 (d0 : Dev nD) : Nat :=
  let c0_i32_364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_363 : BitVec 32 := 1#32
  let v363 : BitVec 32 := Scalar.muli v25 c1_i32_363
  let v364 : BitVec 32 := Scalar.addi c0_i32_364 v363
  v364.toNat
def k0_dev14 (d0 : Dev nD) : Nat :=
  let c0_i32_398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_397 : BitVec 32 := 1#32
  let v392 : BitVec 32 := Scalar.muli v14 c1_i32_397
  let v393 : BitVec 32 := Scalar.addi c0_i32_398 v392
  v393.toNat
def k0_off9 (d0 : Dev nD) : Fin 3 → Nat :=
  let c0_418 : Index := 0#32
  let c0_419 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_417 : BitVec 32 := 512#32
  let v413 : BitVec 32 := Scalar.muli v2 c512_i32_417
  let v414 : Index := Scalar.indexCast v413
  ![0, 0, v414.toNat]
def k0_off10 (d0 : Dev nD) : Fin 3 → Nat :=
  let c0_439 : Index := 0#32
  let c0_440 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_437 : BitVec 32 := 512#32
  let v431 : BitVec 32 := Scalar.muli v2 c512_i32_437
  let c256_i32_438 : BitVec 32 := 256#32
  let v432 : BitVec 32 := Scalar.addi v431 c256_i32_438
  let v433 : Index := Scalar.indexCast v432
  ![0, 0, v433.toNat]
def k0_off11 (d0 : Dev nD) : Fin 3 → Nat :=
  let c0_458 : Index := 0#32
  let c512_459 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_457 : BitVec 32 := 512#32
  let v450 : BitVec 32 := Scalar.muli v2 c512_i32_457
  let v451 : Index := Scalar.indexCast v450
  ![0, 512, v451.toNat]
def k0_off12 (d0 : Dev nD) : Fin 3 → Nat :=
  let c0_479 : Index := 0#32
  let c512_480 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_477 : BitVec 32 := 512#32
  let v468 : BitVec 32 := Scalar.muli v2 c512_i32_477
  let c256_i32_478 : BitVec 32 := 256#32
  let v469 : BitVec 32 := Scalar.addi v468 c256_i32_478
  let v470 : Index := Scalar.indexCast v469
  ![0, 512, v470.toNat]
abbrev stage0_0 : Fin 1 → Memref sig .tc .vmem S1x1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x1024x2048 : Shape := ⟨3, ![4, 1024, 2048]⟩
abbrev S_ : Shape := ⟨0, ![]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S4x1024x2048, .f32⟩
  | .hbm, ⟨2, _⟩ => ⟨S_, .f32⟩
  | .hbm, ⟨3, _⟩ => ⟨S1024x2048, .f32⟩
  | .hbm, ⟨4, _⟩ => ⟨S1024x2048, .bf16⟩
  | .hbm, ⟨5, _⟩ => ⟨S1024x2048, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdeal.Phases.lean ====
/-
# The kernel's body as a straight line of phases

The kernel sums four blocks around two rings at once: one ring passes partial sums to the right through the buffer
`cc0_scratch0`, the other passes them to the left through `cc0_scratch1`. Each buffer has four slots of two halves, and
every printed statement acts on one half of one slot of one ring. This module names the four kinds of phase the body
consists of, over a ring `σ` (`false` to the right, `true` to the left), a hop and a half, and states that the printed
body is these phases in order.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Regions
public import Idealize.ShloMosaic.Lib.Pipeline.Kit
public import Idealize.ShloMosaic.Lib.Tactic

@[expose] public section

noncomputable section

namespace Cert.RingKernelIdeal

open Cert.KernelIdeal Cert.KernelIdeal.Gen
open Idealize.ShloMosaic Idealize.ShloMosaic.TcCoe Idealize.SL.Sem

variable {F : FTy → Type} [FloatOps F]

/-! ## The memory a phase acts on -/

/-- The ring's buffer: four slots of 1024 rows. -/
abbrev comm : Bool → Memref sig .tc .vmem S4x1024x256 .bf16
  | false => Memref.whole cc0_scratch0
  | true => Memref.whole cc0_scratch1

theorem comm_whole : ∀ σ, (comm σ).IsWhole
  | false => Memref.isWhole_whole _
  | true => Memref.isWhole_whole _

/-- The device's argument block and its result block, as the body sees them. -/
abbrev xRef : Memref sig .tc .vmem S1x1024x2048 .bf16 := Memref.whole cc0_stg0_0
abbrev oRef : Memref sig .tc .vmem S1024x512 .f32 := Memref.whole cc0_stg1_0

theorem slot_inb (h : Fin 4) (j : Fin 2) :
    ∀ a, (![h.val, 512 * j.val, 0] : Fin 3 → Nat) a + S1x512x256.size a ≤ S4x1024x256.size a := by
  revert h j; decide

/-- Half `j` of slot `h`. -/
abbrev slotRect (h : Fin 4) (j : Fin 2) : Rect S4x1024x256 :=
  Rect.unit (s := S4x1024x256) ![h.val, 512 * j.val, 0] S1x512x256.size (slot_inb h j)

theorem slot_packed (h : Fin 4) (j : Fin 2) : (slotRect h j).PackedRows (EltTy.packing .bf16) := by
  revert h j; decide

theorem slot_words (h : Fin 4) (j : Fin 2) : (slotRect h j).WholeWords (EltTy.packing .bf16) := by
  revert h j; decide

/-- The half slot as a reference of its own, and without its leading axis, as the transfers name it. -/
abbrev half (σ : Bool) (h : Fin 4) (j : Fin 2) : Memref sig .tc .vmem S1x512x256 .bf16 :=
  (comm σ).slice (slotRect h j) (fun _ => rfl)
abbrev flat (σ : Bool) (h : Fin 4) (j : Fin 2) : Memref sig .tc .vmem S512x256 .bf16 :=
  (half σ h j).squeeze S512x256 squeezes_S1x512x256_S512x256

theorem flat_words (σ : Bool) (h : Fin 4) (j : Fin 2) : (flat σ h j).view.WordExact :=
  ((comm_whole σ).wordExact_slice rfl _ (slot_words h j)).reshape _ _

theorem slot_stores (σ : Bool) (h : Fin 4) (j : Fin 2) :
    ((comm σ).access (slotRect h j)).Stores (Finset.univ : Finset (slotRect h j).shape.Idx) :=
  View.stores_vmem h_S1x512x256 ((comm_whole σ).storeExact_slice rfl _ (slot_packed h j)) (fun _ => rfl)

theorem out_inb (σ : Bool) (j : Fin 2) :
    ∀ a, (![512 * j.val, 256 * σ.toNat] : Fin 2 → Nat) a + S512x256.size a ≤ S1024x512.size a := by
  revert σ j; decide

/-- The quarter of the result block that ring `σ` computes at half `j`. -/
abbrev outRect (σ : Bool) (j : Fin 2) : Rect S1024x512 :=
  Rect.unit (s := S1024x512) ![512 * j.val, 256 * σ.toNat] S512x256.size (out_inb σ j)

/-- The rectangle of the argument block at an offset. -/
abbrev xRect (off : Fin 3 → Nat) (hoff : ∀ a, off a + S1x512x256.size a ≤ S1x1024x2048.size a) : Rect S1x1024x2048 :=
  Rect.unit (s := S1x1024x2048) off S1x512x256.size hoff

/-! ## The semaphores -/

/-- The transfer semaphores, by ring, by whether they count arrivals, by row and by half. -/
abbrev Key : Type := Bool × Bool × Fin 4 × Fin 2

/-- The semaphore of a key: the kernel's four arrays of eight follow each other from number 2 on. -/
def dsem (k : Key) : DmaSem sig :=
  ⟨2 + (16 * k.1.toNat + 8 * k.2.1.toNat + 2 * k.2.2.1.val + k.2.2.2.val), by
    obtain ⟨σ, b, h, j⟩ := k; revert σ b h j; decide⟩

/-- The semaphore a hop's departure counts on, and the one its arrival counts on. -/
abbrev sendSem (σ : Bool) (h : Fin 3) (j : Fin 2) : DmaSem sig := dsem (σ, false, h.castSucc, j)
abbrev recvSem (σ : Bool) (h : Fin 3) (j : Fin 2) : DmaSem sig := dsem (σ, true, h.succ, j)

/-! ## The values a phase computes -/

/-- A block of the argument as it is stored in a slot. -/
def val0 (x : Vec F S1x512x256 .bf16) : FVec F S1x512x256 .bf16 :=
  shapeCast S1x512x256 (shapeCast S512x256 x shapeCasts_S1x512x256_S512x256 : FVec F S512x256 .bf16) shapeCasts_S512x256_S1x512x256

/-- An arrived partial sum and a block of the argument, added. -/
def val1 (y x : Vec F S1x512x256 .bf16) : FVec F S1x512x256 .bf16 :=
  shapeCast S1x512x256 (addf (shapeCast S512x256 y shapeCasts_S1x512x256_S512x256 : FVec F S512x256 .bf16)
    (shapeCast S512x256 x shapeCasts_S1x512x256_S512x256)) shapeCasts_S512x256_S1x512x256

/-! ## The phases -/

abbrev KProg (F : FTy → Type) [FloatOps F] : Type 1 := Prog (TpuEff nD τ sig (Elt F) Λ₀ .tc) PUnit

/-- The last hop's copy of the sum into the result, at the wider type. -/
def val2 (y x : Vec F S1x512x256 .bf16) : FVec F S512x256 .f32 := k0_pay13 y x

/-- Wait for the arrival of hop `h`. -/
def awaitP (σ : Bool) (h : Fin 3) (j : Fin 2) (k : KProg F) : KProg F :=
  .op (.waitDma2 (recvSem σ h j) (flat σ h.castSucc j) (flat σ h.succ j) (flat_words _ _ _) (flat_words _ _ _)) fun _ => k

/-- Send slot `h` to the device `p`, into the next slot there. -/
def sendP (σ : Bool) (h : Fin 3) (j : Fin 2) (p : Dev nD) (k : KProg F) : KProg F :=
  .op (.enqueueDma (flat σ h.castSucc j) (.remote (Dev.tc p) (flat σ h.succ j) (.dma (sendSem σ h j))) (.dma (recvSem σ h j))
    (flat_words _ _ _) (flat_words _ _ _) ⟨⟨rfl, Or.inl rfl⟩, trivial⟩) fun _ => k

/-- Wait for the departure of hop `h`. -/
def leaveP (σ : Bool) (h : Fin 3) (j : Fin 2) (k : KProg F) : KProg F :=
  .op (.waitDma2 (sendSem σ h j) (flat σ h.succ j) (flat σ h.castSucc j) (flat_words _ _ _) (flat_words _ _ _)) fun _ => k

/-- Put the block of the argument at `off` into slot 0. -/
def fillP (σ : Bool) (j : Fin 2) (off : Fin 3 → Nat) (hoff : ∀ a, off a + S1x512x256.size a ≤ S1x1024x2048.size a)
    (k : KProg F) : KProg F :=
  .op (.load xRef (xRect off hoff).toLoadRect (View.loadsAt_vmem h_S1x512x256)) fun x =>
  .op (.load (comm σ) (slotRect 0 j).toLoadRect (View.loadsAt_vmem h_S1x512x256)) fun _ =>
  .op (.store (comm σ) (slotRect 0 j) (val0 x) Finset.univ (slot_stores σ 0 j) (.inl rfl)) fun _ => k

/-- Add the block of the argument at `off` to slot `h`. -/
def addP (σ : Bool) (h : Fin 4) (j : Fin 2) (off : Fin 3 → Nat) (hoff : ∀ a, off a + S1x512x256.size a ≤ S1x1024x2048.size a)
    (k : KProg F) : KProg F :=
  .op (.load (comm σ) (slotRect h j).toLoadRect (View.loadsAt_vmem h_S1x512x256)) fun y =>
  .op (.load xRef (xRect off hoff).toLoadRect (View.loadsAt_vmem h_S1x512x256)) fun x =>
  .op (.load (comm σ) (slotRect h j).toLoadRect (View.loadsAt_vmem h_S1x512x256)) fun _ =>
  .op (.store (comm σ) (slotRect h j) (val1 y x) Finset.univ (slot_stores σ h j) (.inl rfl)) fun _ => k

/-- Add the block of the argument at `off` to slot 3 and put the sum into the result. -/
def outP (σ : Bool) (j : Fin 2) (off : Fin 3 → Nat) (hoff : ∀ a, off a + S1x512x256.size a ≤ S1x1024x2048.size a)
    (k : KProg F) : KProg F :=
  .op (.load (comm σ) (slotRect 3 j).toLoadRect (View.loadsAt_vmem h_S1x512x256)) fun y =>
  .op (.load xRef (xRect off hoff).toLoadRect (View.loadsAt_vmem h_S1x512x256)) fun x =>
  .op (.load oRef (outRect σ j).toLoadRect (View.loadsAt_vmem h_S512x256)) fun _ =>
  .op (.store oRef (outRect σ j) (val2 y x) Finset.univ (View.stores_vmem_bits_univ h_S512x256 rfl) (.inl rfl)) fun _ => k

/-- The handshake: one unit to each neighbour's barrier, and two units awaited. -/
def greetP (l r : Dev nD) (k : KProg F) : KProg F :=
  .op (.semSignal (Dev.tc l) barrier0 1) fun _ => .op (.semSignal (Dev.tc r) barrier0 1) fun _ => .op (.semWait barrier0 2) fun _ => k

/-! ## The printed body -/

/-- The phases of device `d` after the handshake. -/
def ringPhases (d : Dev nD) : KProg F :=
  fillP false 0 (k0_off1 d) (k0_off1_inb d) <| sendP false 0 0 ⟨k0_dev3 d, k0_dev3_lt d⟩ <|
  fillP true 0 (k0_off2 d) (k0_off2_inb d) <| sendP true 0 0 ⟨k0_dev4 d, k0_dev4_lt d⟩ <|
  fillP false 1 (k0_off3 d) (k0_off3_inb d) <| sendP false 0 1 ⟨k0_dev5 d, k0_dev5_lt d⟩ <|
  fillP true 1 (k0_off4 d) (k0_off4_inb d) <| sendP true 0 1 ⟨k0_dev6 d, k0_dev6_lt d⟩ <|
  awaitP false 0 0 <| addP false 1 0 (k0_off5 d 1#32) (k0_off5_inb d 0) <| sendP false 1 0 ⟨k0_dev7 d, k0_dev7_lt d⟩ <|
  awaitP true 0 0 <| addP true 1 0 (k0_off6 d 1#32) (k0_off6_inb d 0) <| sendP true 1 0 ⟨k0_dev8 d, k0_dev8_lt d⟩ <|
  awaitP false 0 1 <| addP false 1 1 (k0_off7 d 1#32) (k0_off7_inb d 0) <| sendP false 1 1 ⟨k0_dev9 d, k0_dev9_lt d⟩ <|
  awaitP true 0 1 <| addP true 1 1 (k0_off8 d 1#32) (k0_off8_inb d 0) <| sendP true 1 1 ⟨k0_dev10 d, k0_dev10_lt d⟩ <|
  awaitP false 1 0 <| addP false 2 0 (k0_off5 d 2#32) (k0_off5_inb d 1) <| sendP false 2 0 ⟨k0_dev11 d, k0_dev11_lt d⟩ <|
  awaitP true 1 0 <| addP true 2 0 (k0_off6 d 2#32) (k0_off6_inb d 1) <| sendP true 2 0 ⟨k0_dev12 d, k0_dev12_lt d⟩ <|
  awaitP false 1 1 <| addP false 2 1 (k0_off7 d 2#32) (k0_off7_inb d 1) <| sendP false 2 1 ⟨k0_dev13 d, k0_dev13_lt d⟩ <|
  awaitP true 1 1 <| addP true 2 1 (k0_off8 d 2#32) (k0_off8_inb d 1) <| sendP true 2 1 ⟨k0_dev14 d, k0_dev14_lt d⟩ <|
  awaitP false 2 0 <| outP false 0 (k0_off9 d) (k0_off9_inb d) <|
  awaitP true 2 0 <| outP true 0 (k0_off10 d) (k0_off10_inb d) <|
  awaitP false 2 1 <| outP false 1 (k0_off11 d) (k0_off11_inb d) <|
  awaitP true 2 1 <| outP true 1 (k0_off12 d) (k0_off12_inb d) <|
  leaveP false 0 0 <| leaveP true 0 0 <| leaveP false 0 1 <| leaveP true 0 1 <|
  leaveP false 1 0 <| leaveP true 1 0 <| leaveP false 1 1 <| leaveP true 1 1 <|
  leaveP false 2 0 <| leaveP true 2 0 <| leaveP false 2 1 <| leaveP true 2 1 <| .ret ⟨⟩

/-- The printed body, phase by phase, at the printed targets and offsets. -/
def printed : KProg F :=
  .op .deviceId fun d => greetP ⟨k0_dev1 d, k0_dev1_lt d⟩ ⟨k0_dev2 d, k0_dev2_lt d⟩ (ringPhases d)

set_option maxRecDepth 65536 in
/-- The printed body is the phases in order. -/
theorem body_printed :
    cc0_body (F := F) xRef (Memref.isWhole_whole _) oRef (Memref.isWhole_whole _) (Memref.whole cc0_scratch0) (Memref.isWhole_whole _)
      (Memref.whole cc0_scratch1) (Memref.isWhole_whole _) cc0_scratch2 cc0_scratch3 cc0_scratch4 cc0_scratch5 = printed := by
  chain_rfl

end Cert.RingKernelIdeal

end

end
-- ==== Proof.KernelIdeal.Protocol.lean ====
/-
# The protocol of the two rings

What the devices owe each other and what each semaphore's count hands over. Device `c` and ring `σ`: the hop `h` of half
`j` copies slot `h` of `c` into slot `h + 1` of the neighbour `nb σ c`; its departure counts on a semaphore of `c`, its
arrival on one of the neighbour. The barrier semaphore of `c` takes one unit from each neighbour, and with the unit the
neighbour hands over the slots that `c` is going to write there.
-/
module

public import proofs.«01_k».proof.Proof.KernelIdeal.Phases

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: one copy of the rounds algebra for the pipeline, one for the rings -/

abbrev URing : Type := URounds (GSem nD τ sig) Bool
abbrev UAll : Type := UR sig nD τ × URing

local notation "𝕄" => MT nD τ sig Unit (Elt F) ℕ UAll ℕ

abbrev EPipe : Emb (UR sig nD τ) (MT nD τ sig Unit (Elt F) ℕ UAll ℕ) := embL
abbrev ERing : Emb URing (MT nD τ sig Unit (Elt F) ℕ UAll ℕ) := embR

/-! ## Neighbours -/

/-- The device ring `σ` sends to: the next one, or the one before. -/
def nb (σ : Bool) (c : Dev nD) : Dev nD := ⟨(c.val + (if σ then 3 else 1)) % nD, Nat.mod_lt _ (by decide)⟩

theorem nb_not (σ : Bool) (c : Dev nD) : nb (!σ) (nb σ c) = c := by revert σ c; decide
theorem nb_of_not (σ : Bool) (c : Dev nD) : nb σ (nb (!σ) c) = c := by revert σ c; decide

/-- Going round ring `σ`. -/
def nbEquiv (σ : Bool) : Dev nD ≃ Dev nD := ⟨nb σ, nb (!σ), nb_not σ, nb_of_not σ⟩

/-! ## Contents -/

section Contents

/-- Where ring `σ` reads the argument at hop `h`: the columns of the block that is due there. -/
def off (σ : Bool) (h : ℕ) (j : Fin 2) (c : Dev nD) : Fin 3 → Nat :=
  ![0, 512 * j.val, 512 * ((c.val + (if σ then 1 + h else 3 - h)) % 4) + 256 * σ.toNat]

theorem off_inb (σ : Bool) (h : ℕ) (j : Fin 2) (c : Dev nD) : ∀ a, off σ h j c a + S1x512x256.size a ≤ S1x1024x2048.size a := by
  have hj := j.isLt
  have hm := Nat.mod_lt (c.val + (if σ then 1 + h else 3 - h)) (show 0 < 4 by decide)
  have hs : σ.toNat ≤ 1 := Bool.toNat_le σ
  intro a
  fin_cases a
  · exact Nat.le_refl 1
  · show 512 * j.val + 512 ≤ 1024
    omega
  · show 512 * ((c.val + (if σ then 1 + h else 3 - h)) % 4) + 256 * σ.toNat + 256 ≤ 2048
    omega

variable (m : (ℓ : Loc nD τ sig) → Buf (Elt F) ℓ)

/-- Device `c`'s block of the argument, as its staging buffer holds it. -/
def arg (c : Dev nD) : (cc0_stg0_0 : Ref sig .tc).ty.Contents (Elt F) :=
  (win0_0.blk (0 : Fin 1)).view.read (Elt F) (m ((c : Thread nD τ).loc main_arg0))

/-- The piece of it that ring `σ` uses at hop `h`. -/
def piece (σ : Bool) (h : ℕ) (j : Fin 2) (c : Dev nD) : Vec F S1x512x256 .bf16 :=
  xRef.view.readAt (Elt F) (xRect (off σ h j c) (off_inb σ h j c)).toLoadRect (arg m c)

/-- What device `c` sends at hop `h`: its own piece, added to what arrived. -/
def partial_ (σ : Bool) : ℕ → Fin 2 → Dev nD → Vec F S1x512x256 .bf16
  | 0, j, c => val0 (piece m σ 0 j c)
  | h + 1, j, c => val1 (partial_ σ h j (nb (!σ) c)) (piece m σ (h + 1) j c)

/-- A quarter of the result: the last arrival and the device's own piece, added. -/
def quarter (σ : Bool) (j : Fin 2) (c : Dev nD) : Vec F S512x256 .f32 :=
  val2 (partial_ m σ 2 j (nb (!σ) c)) (piece m σ 3 j c)

end Contents

/-! ## Cells -/

/-- The barrier of a device, and its transfer semaphores. -/
abbrev barCell (c : Dev nD) : GSem nD τ sig := ((c : Thread nD τ), .reg barrier0)
abbrev xferCell (c : Dev nD) (k : Key) : GSem nD τ sig := ((c : Thread nD τ), .dma (dsem k))

/-- A hop: ring, number and half. -/
abbrev Hop : Type := Bool × Fin 3 × Fin 2

/-- The key of a hop's departure, and of its arrival. -/
abbrev Hop.out (s : Hop) : Key := (s.1, false, s.2.1.castSucc, s.2.2)
abbrev Hop.inn (s : Hop) : Key := (s.1, true, s.2.1.succ, s.2.2)

/-- The key of a transfer semaphore. -/
def keyOf (q : DmaSem sig) : Key :=
  (decide ((q.val - 2) / 16 % 2 = 1), decide ((q.val - 2) / 8 % 2 = 1), ⟨(q.val - 2) / 2 % 4, Nat.mod_lt _ (by decide)⟩,
    ⟨(q.val - 2) % 2, Nat.mod_lt _ (by decide)⟩)

theorem keyOf_dsem (k : Key) : keyOf (dsem k) = k := by
  obtain ⟨σ, b, h, j⟩ := k; revert σ b h j; decide

theorem dsem_injective : Function.Injective dsem := fun a b h => by rw [← keyOf_dsem a, h, keyOf_dsem]

/-- The units one copy of a half slot counts. -/
abbrev N : ℕ := (flat false 0 0).view.dmaCredit

theorem N_pos : 0 < N := View.dmaCredit_pos _ (by decide)

theorem flat_amount (σ : Bool) (h : Fin 4) (j : Fin 2) (q : DmaSem sig) : (flat σ h j).view.amount (.dma q) = N := by
  cases σ <;> rfl

/-! ## The schedule -/

/-- Half `j` of slot `h` of ring `σ` on device `c`, holding `Y`; and holding anything. -/
def slotAt (σ : Bool) (c : Dev nD) (h : Fin 4) (j : Fin 2) (Y : Vec F S1x512x256 .bf16) : sProp 𝕄 :=
  owns (c : Thread nD τ) (half σ h j) fullShare Y
def slotAny (σ : Bool) (c : Dev nD) (h : Fin 4) (j : Fin 2) : sProp 𝕄 := iprop(∃ Y, slotAt (F := F) σ c h j Y)

instance slotAt_storable (σ : Bool) (c : Dev nD) (h : Fin 4) (j : Fin 2) (Y : Vec F S1x512x256 .bf16) :
    BI.Storable (upEmb : UEmb _ 𝕄) (slotAt σ c h j Y) := by unfold slotAt; infer_instance
instance slotAny_storable (σ : Bool) (c : Dev nD) (h : Fin 4) (j : Fin 2) :
    BI.Storable (upEmb : UEmb _ 𝕄) (slotAny (F := F) σ c h j) := by unfold slotAny; infer_instance

/-- The slots of ring `σ` that device `c` lends to the device that writes them: all but the first. -/
def lent (σ : Bool) (c : Dev nD) : sProp 𝕄 :=
  bigSep (Finset.univ : Finset (Fin 3 × Fin 2)) fun hj => slotAny (F := F) σ c hj.1.succ hj.2

instance lent_storable (σ : Bool) (c : Dev nD) : BI.Storable (upEmb : UEmb _ 𝕄) (lent (F := F) σ c) := by
  unfold lent; infer_instance

variable (m : (ℓ : Loc nD τ sig) → Buf (Elt F) ℓ)

/-- What the count of a transfer semaphore hands over: a departure gives the slot back as it was sent, an arrival gives
    the next slot holding what the neighbour sent. -/
def xferPay (c : Dev nD) (k : Key) : sProp 𝕄 :=
  if k.2.1 then slotAt k.1 c k.2.2.1 k.2.2.2 (partial_ m k.1 (k.2.2.1.val - 1) k.2.2.2 (nb (!k.1) c))
  else slotAt k.1 c k.2.2.1 k.2.2.2 (partial_ m k.1 k.2.2.1.val k.2.2.2 c)

instance xferPay_storable (c : Dev nD) (k : Key) : BI.Storable (upEmb : UEmb _ 𝕄) (xferPay m c k) := by
  unfold xferPay; split <;> infer_instance

/-- The semaphores the kernel uses: every departure row but the last, every arrival row but the first. -/
def live (k : Key) : Bool := if k.2.1 then k.2.2.1 != 0 else k.2.2.1 != 3

theorem live_out (s : Hop) : live s.out = true := by obtain ⟨σ, h, j⟩ := s; revert σ h j; decide
theorem live_inn (s : Hop) : live s.inn = true := by obtain ⟨σ, h, j⟩ := s; revert σ h j; decide

/-- One round: a barrier takes a unit with each of two duties, duty `σ` from the neighbour of ring `σ`; a transfer
    semaphore takes one copy's units with one duty. -/
def sched : Rounds.Schedule (GSem nD τ sig) Bool 𝕄 where
  duties g r := if r = 0 then (match g.2 with | .reg _ => Finset.univ | .dma q => if live (keyOf q) then {false} else ∅) else ∅
  unitless _ := False
  amount g _ _ := match g.2 with | .reg _ => 1 | .dma _ => N
  payload g _ d := match g.2 with | .reg _ => lent (F := F) d (nb d g.1.1) | .dma q => xferPay m g.1.1 (keyOf q)
  amount_pos g _ _ _ := by
    split
    · exact Nat.one_pos
    · exact N_pos

instance sched_storable (g : GSem nD τ sig) (r : ℕ) (d : Bool) : BI.Storable (upEmb : UEmb _ 𝕄) ((sched (F := F) m).payload g r d) := by
  obtain ⟨t, sm⟩ := g
  cases sm
  · exact lent_storable (F := F) d (nb d t.1)
  · exact xferPay_storable m t.1 _

section Table
variable (c : Dev nD)

theorem duties_bar : (sched m).duties (barCell c) 0 = Finset.univ := rfl
theorem duties_xfer {k : Key} (hk : live k = true) : (sched m).duties (xferCell c k) 0 = {false} := by
  show (if live (keyOf (dsem k)) then ({false} : Finset Bool) else ∅) = _
  rw [keyOf_dsem, if_pos hk]
theorem duties_idle {k : Key} (hk : live k = false) (r : ℕ) : (sched m).duties (xferCell c k) r = ∅ := by
  show (if r = 0 then (if live (keyOf (dsem k)) then ({false} : Finset Bool) else ∅) else ∅) = _
  rw [keyOf_dsem, if_neg (c := live k = true) (by rw [hk]; decide), ite_self]
theorem duties_later (g : GSem nD τ sig) : ∀ r, 1 ≤ r → (sched m).duties g r = ∅ :=
  fun r hr => if_neg (Nat.pos_iff_ne_zero.mp hr)

theorem amount_bar (d : Bool) : (sched m).amount (barCell c) 0 d = 1 := rfl
theorem amount_xfer (k : Key) (d : Bool) : (sched m).amount (xferCell c k) 0 d = N := rfl

theorem expect_bar : (sched m).expect (barCell c) 0 = 2 := by
  show ∑ d ∈ (Finset.univ : Finset Bool), 1 = 2
  decide
theorem expect_xfer {k : Key} (hk : live k = true) : (sched m).expect (xferCell c k) 0 = N := by
  unfold Schedule.expect Schedule.amountOf
  rw [duties_xfer m c hk, Finset.sum_singleton, amount_xfer]

theorem payload_bar (d : Bool) : (sched m).payload (barCell c) 0 d = lent (F := F) d (nb d c) := rfl
theorem payload_xfer (k : Key) (d : Bool) : (sched m).payload (xferCell c k) 0 d = xferPay m c k := by
  show xferPay m c (keyOf (dsem k)) = _
  rw [keyOf_dsem]

theorem payload_out (s : Hop) (d : Bool) :
    (sched m).payload (xferCell c s.out) 0 d = slotAt s.1 c s.2.1.castSucc s.2.2 (partial_ m s.1 s.2.1.val s.2.2 c) := by
  rw [payload_xfer]; rfl
theorem payload_inn (s : Hop) (d : Bool) :
    (sched m).payload (xferCell c s.inn) 0 d = slotAt s.1 c s.2.1.succ s.2.2 (partial_ m s.1 s.2.1.val s.2.2 (nb (!s.1) c)) := by
  rw [payload_xfer]; rfl

/-- What a wait for a barrier's round hands over, and a wait for a transfer semaphore's. -/
theorem rest_bar : bigSep ((sched m).duties (barCell c) 0 \ ∅) (fun d => (sched m).payload (barCell c) 0 d)
    = iprop(lent (F := F) false (nb false c) ∗ lent (F := F) true (nb true c)) := by
  rw [Finset.sdiff_empty, duties_bar, bigSep_univ_eq_bigSepL [false, true] (by decide) (by decide), bigSepL_cons_cons, bigSepL_singleton]
  rfl
theorem rest_xfer {k : Key} (hk : live k = true) :
    bigSep ((sched m).duties (xferCell c k) 0 \ ∅) (fun d => (sched m).payload (xferCell c k) 0 d)
      = (sched m).payload (xferCell c k) 0 false := by
  rw [Finset.sdiff_empty, duties_xfer m c hk, bigSep_singleton]

end Table

/-! ## Debts and levels -/

/-- The hops of a device in the order it makes them. -/
def hops : List Hop :=
  [(false, 0, 0), (true, 0, 0), (false, 0, 1), (true, 0, 1), (false, 1, 0), (true, 1, 0), (false, 1, 1), (true, 1, 1),
    (false, 2, 0), (true, 2, 0), (false, 2, 1), (true, 2, 1)]

/-- The units device `c` owes for the hops it still has to make: each to the arrival semaphore at the neighbour. -/
def debts (c : Dev nD) : List Hop → CellTallies nD τ sig Unit
  | [] => 0
  | s :: l => debts c l + tallyAt (xferCell (nb s.1 c) s.inn) () N

/-- What it owes before its second signal, and before its first. -/
def owed1 (c : Dev nD) : CellTallies nD τ sig Unit := debts c hops + tallyAt (barCell (nb false c)) () 1
def owed0 (c : Dev nD) : CellTallies nD τ sig Unit := owed1 c + tallyAt (barCell (nb true c)) () 1

theorem tallyAt_pos {g g' : GSem nD τ sig} {n : ℕ} {u : Unit} (h : 0 < tallyAt g' () n g u) : g = g' := by
  by_contra hn
  rw [tallyAt_apply, if_neg fun h' => hn h'.1] at h
  exact Nat.lt_irrefl 0 h

theorem add_pos_cases {A B : CellTallies nD τ sig Unit} {g : GSem nD τ sig} {u : Unit} (h : 0 < (A + B) g u) : 0 < A g u ∨ 0 < B g u := by
  rw [Pi.add_apply, Finsupp.add_apply] at h
  omega

theorem debts_pos {c : Dev nD} {g : GSem nD τ sig} {u : Unit} :
    ∀ {l : List Hop}, 0 < debts c l g u → ∃ s ∈ l, g = xferCell (nb s.1 c) s.inn
  | [], h => absurd h (Nat.lt_irrefl 0)
  | s :: l, h => by
    rcases add_pos_cases h with h | h
    · obtain ⟨s', hs, rfl⟩ := debts_pos h
      exact ⟨s', List.mem_cons_of_mem _ hs, rfl⟩
    · exact ⟨s, List.mem_cons_self, tallyAt_pos h⟩

def idx (g : GSem nD τ sig) : Finset Unit := if g.1.2 = .tc then {()} else ∅

/-- Barriers are awaited first, then the arrivals row by row; nothing waits below the others. -/
def level (g : GSem nD τ sig) (_ : Unit) : ℕ :=
  match g.2 with
  | .reg _ => 1
  | .dma q => if (keyOf q).2.1 then (keyOf q).2.2.1.val + 1 else 0

theorem level_inn (c : Dev nD) (s : Hop) (u : Unit) : level (xferCell c s.inn) u = s.2.1.val + 2 := by
  unfold level
  simp only [keyOf_dsem]
  rfl

theorem idx_tc (c : Dev nD) (sm : SemLoc sig) : idx ((c : Thread nD τ), sm) = {()} := if_pos rfl
theorem idx_of_ne (g : GSem nD τ sig) (h : g.1.2 ≠ .tc) : idx g = ∅ := if_neg h

/-- A device may wait at a level below everything it owes. -/
theorem mayWait_below (c : Dev nD) (sm : SemLoc sig) (O : CellTallies nD τ sig Unit) (n : ℕ) (hn : level ((c : Thread nD τ), sm) () ≤ n)
    (hO : ∀ g u, 0 < O g u → g.1.2 = .tc ∧ n < level g u) : (levAts idx level : sProp 𝕄) ⊢ MayWait (c : Thread nD τ) sm () O :=
  MayOwe.of_cut (L := idx) (lev := level) n
    (fun p hp => by rw [Finset.mem_singleton.mp hp, idx_tc]; exact Finset.mem_singleton_self _)
    (fun g u hg => by unfold idx; rw [if_pos (hO g u hg).1]; exact Finset.mem_singleton_self _)
    (fun p hp => by rw [Finset.mem_singleton.mp hp]; exact hn)
    (fun g u hg => (hO g u hg).2)

/-- Waiting for an arrival while only later hops are owed. -/
theorem mayWait_inn (c : Dev nD) (s : Hop) (l : List Hop) (hl : ∀ s' ∈ l, s.2.1 < s'.2.1) :
    (levAts idx level : sProp 𝕄) ⊢ MayWait (c : Thread nD τ) (.dma (dsem s.inn)) () (debts c l) :=
  mayWait_below c _ _ (s.2.1.val + 2) (by rw [show ((c : Thread nD τ), SemLoc.dma (dsem s.inn)) = xferCell c s.inn from rfl, level_inn])
    fun g u hg => by
      obtain ⟨s', hs, rfl⟩ := debts_pos hg
      rw [level_inn]
      exact ⟨rfl, by have := hl s' hs; omega⟩

/-- Waiting at the barrier while the hops are owed. -/
theorem mayWait_bar (c : Dev nD) (l : List Hop) : (levAts idx level : sProp 𝕄) ⊢ MayWait (c : Thread nD τ) (.reg barrier0) () (debts c l) :=
  mayWait_below c _ _ 1 (Nat.le_refl 1) fun g u hg => by
    obtain ⟨s', hs, rfl⟩ := debts_pos hg
    rw [level_inn]
    exact ⟨rfl, by omega⟩

/-- Waiting for a copy into or out of a staging buffer, at launch or at the end. -/
theorem mayWait_stage (c : Dev nD) (q : DmaSem sig) (hq : (keyOf q).2.1 = false) (O : CellTallies nD τ sig Unit) (hO : O = owed0 c ∨ O = 0) :
    (levAts idx level : sProp 𝕄) ⊢ MayWait (c : Thread nD τ) (.dma q) () O := by
  refine mayWait_below c _ _ 0 (by show (if (keyOf q).2.1 then _ else 0) ≤ 0; rw [hq]; exact Nat.le_refl 0) fun g u hg => ?_
  rcases hO with rfl | rfl
  · rcases add_pos_cases hg with hg | hg
    · rcases add_pos_cases hg with hg | hg
      · obtain ⟨s', hs, rfl⟩ := debts_pos hg
        rw [level_inn]
        exact ⟨rfl, by omega⟩
      · rw [tallyAt_pos hg]; exact ⟨rfl, Nat.one_pos⟩
    · rw [tallyAt_pos hg]; exact ⟨rfl, Nat.one_pos⟩
  · exact absurd hg (Nat.lt_irrefl 0)

end Cert.RingKernelIdeal

end

end
-- ==== Proof.KernelIdeal.Steps.lean ====
/-
# What each phase does

Every phase of the body as one rule of the program logic: what a device holds before it and after it.
-/
module

public import proofs.«01_k».proof.Proof.KernelIdeal.Protocol

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAll ℕ

abbrev 𝒱₀ : Variants := Variants.none

variable (m : (ℓ : Loc nD τ sig) → Buf (Elt F) ℓ)

/-! ## What all devices know -/

/-- The cells of the rings: a device's barrier, and its transfer semaphores. -/
def cellAt : Dev nD × Option Key → GSem nD τ sig
  | (c, none) => barCell c
  | (c, some k) => xferCell c k

/-- Every cell keeps to the schedule, is at its first round at least, and has its level. -/
def known (K : Dev nD × Option Key → ℕ) : sProp 𝕄 :=
  iprop((bigSep Finset.univ fun x => cellInv ERing (sched m) (K x) (cellAt x)) ∗ (bigSep Finset.univ fun x => reached ERing (cellAt x) 0)
    ∗ levAts idx level)

instance known_persistent (K : Dev nD × Option Key → ℕ) : BI.Persistent (known m K) := by unfold known; infer_instance

variable (K : Dev nD × Option Key → ℕ) (c : Dev nD)

theorem known_bar : known m K ⊢ iprop(cellInv ERing (sched m) (K (c, none)) (barCell c) ∗ reached ERing (barCell c) 0 ∗ levAts idx level) := by
  unfold known
  exact sep_mono (bigSep_elim (Finset.mem_univ (c, none))) (sep_mono_left (bigSep_elim (Finset.mem_univ (c, none))))

theorem known_xfer (k : Key) :
    known m K ⊢ iprop(cellInv ERing (sched m) (K (c, some k)) (xferCell c k) ∗ reached ERing (xferCell c k) 0 ∗ levAts idx level) := by
  unfold known
  exact sep_mono (bigSep_elim (Finset.mem_univ (c, some k))) (sep_mono_left (bigSep_elim (Finset.mem_univ (c, some k))))

/-! ## Single effects -/

/-- The program `k` of device `c` runs from here to `Q`. -/
abbrev runs (k : KProg F) (Q : PUnit → sProp 𝕄) : sProp 𝕄 :=
  wp frame (wpE (defs₀ (F := F)) 𝒱₀ (c : Thread nD τ) none) Set.univ k Q

/-- Device `c` owes `O`. -/
def owing (O : CellTallies nD τ sig Unit) : sProp 𝕄 := iprop(∃ W, owes (c : Thread nD τ) O W)

/-- The argument block, as the body reads it. -/
def argHeld : sProp 𝕄 := owns (c : Thread nD τ) xRef fullShare (arg m c)

/-- A quarter of the result block holding `Y`. -/
def quarterAt (σ : Bool) (j : Fin 2) (Y : Vec F S512x256 .f32) : sProp 𝕄 :=
  owns (c : Thread nD τ) (oRef.slice (outRect σ j) (fun _ => rfl)) fullShare Y

/-- A device's place in the rounds of a transfer semaphore. -/
def place (k : Key) (r : ℕ) : sProp 𝕄 := atPos ERing (xferCell c k) r ∅ 0

/-- The right to make a hop: the duties it pays, here and at the neighbour. -/
def ticket (s : Hop) : sProp 𝕄 :=
  iprop(dutyTok ERing (xferCell c s.out) 0 false ∗ dutyTok ERing (xferCell (nb s.1 c) s.inn) 0 false)

variable {c}

/-- Loading a piece of the argument. -/
theorem load_arg {Q : PUnit → sProp 𝕄} {σ : Bool} {h : ℕ} {j : Fin 2} {o : Fin 3 → ℕ} {ho} (e : o = off σ h j c) {hl}
    {k : Vec F S1x512x256 .bf16 → KProg F} :
    argHeld m c ⊢ iprop((argHeld m c -∗ runs c (k (piece m σ h j c)) Q) -∗ runs c (.op (.load xRef (xRect o ho).toLoadRect hl) k) Q) := by
  subst e
  unfold argHeld owns
  iintro ⟨%f, %hf, H⟩ Hk
  iapply (wp_load 𝒱₀ (c : Thread nD τ) none Set.univ (m := xRef) (View.setOn_subset_set _ _)) $$ H
  iintro H
  rw [show f = arg m c from hf]
  iapply Hk
  iexists (arg m c)
  isplitr; · ipureintro; rfl
  iexact H

/-- Loading a half slot. -/
theorem load_slot {Q : PUnit → sProp 𝕄} {σ : Bool} {h : Fin 4} {j : Fin 2} {Y : Vec F S1x512x256 .bf16} {hl} {k : Vec F S1x512x256 .bf16 → KProg F} :
    slotAt σ c h j Y ⊢ iprop((slotAt σ c h j Y -∗ runs c (k Y) Q) -∗ runs c (.op (.load (comm σ) (slotRect h j).toLoadRect hl) k) Q) := by
  unfold slotAt owns
  iintro ⟨%f, %hf, H⟩ Hk
  iapply (wp_load_rect 𝒱₀ (c : Thread nD τ) none Set.univ (m := comm σ) (r := slotRect h j) (Finset.Subset.refl _)) $$ H
  iintro H
  rw [show ((comm σ).access (slotRect h j)).read (Elt F) f = Y from hf]
  iapply Hk
  iexists f
  isplitr; · ipureintro; exact hf
  iexact H

/-- Storing a half slot. -/
theorem store_slot {Q : PUnit → sProp 𝕄} {σ : Bool} {h : Fin 4} {j : Fin 2} {Y Z : Vec F S1x512x256 .bf16} {hs hm} {k : PUnit → KProg F} :
    slotAt σ c h j Y ⊢ iprop((slotAt σ c h j Z -∗ runs c (k ⟨⟩) Q) -∗ runs c (.op (.store (comm σ) (slotRect h j) Z Finset.univ hs hm) k) Q) := by
  unfold slotAt owns
  iintro ⟨%f, %hf, H⟩ Hk
  iapply (wp_store 𝒱₀ (c : Thread nD τ) none Set.univ (m := comm σ) (r := slotRect h j) (Mk := Finset.univ) (View.setOn_subset_set _ _)) $$ H
  iintro H
  iapply Hk
  iexists _
  isplitr
  · ipureintro
    exact View.read_write_univ f Z
  iexact H

/-- Loading a quarter of the result. -/
theorem load_quarter {Q : PUnit → sProp 𝕄} {σ : Bool} {j : Fin 2} {Y : Vec F S512x256 .f32} {hl} {k : Vec F S512x256 .f32 → KProg F} :
    quarterAt c σ j Y ⊢ iprop((quarterAt c σ j Y -∗ runs c (k Y) Q) -∗ runs c (.op (.load oRef (outRect σ j).toLoadRect hl) k) Q) := by
  unfold quarterAt owns
  iintro ⟨%f, %hf, H⟩ Hk
  iapply (wp_load_rect 𝒱₀ (c : Thread nD τ) none Set.univ (m := oRef) (r := outRect σ j) (Finset.Subset.refl _)) $$ H
  iintro H
  rw [show (oRef.access (outRect σ j)).read (Elt F) f = Y from hf]
  iapply Hk
  iexists f
  isplitr; · ipureintro; exact hf
  iexact H

/-- Storing a quarter of the result. -/
theorem store_quarter {Q : PUnit → sProp 𝕄} {σ : Bool} {j : Fin 2} {Y Z : Vec F S512x256 .f32} {hs hm} {k : PUnit → KProg F} :
    quarterAt c σ j Y ⊢ iprop((quarterAt c σ j Z -∗ runs c (k ⟨⟩) Q) -∗ runs c (.op (.store oRef (outRect σ j) Z Finset.univ hs hm) k) Q) := by
  unfold quarterAt owns
  iintro ⟨%f, %hf, H⟩ Hk
  iapply (wp_store 𝒱₀ (c : Thread nD τ) none Set.univ (m := oRef) (r := outRect σ j) (Mk := Finset.univ) (View.setOn_subset_set _ _)) $$ H
  iintro H
  iapply Hk
  iexists _
  isplitr
  · ipureintro
    exact View.read_write_univ f Z
  iexact H

/-- A half slot copied over another, both without their leading axis, reads as the first one. -/
theorem read_copied (σ : Bool) (h h' : Fin 4) (j : Fin 2) (f g : (half σ h j).view.ty.Contents (Elt F)) :
    (half σ h' j).view.read (Elt F) ((flat σ h' j).view.write (Elt F) g ((flat σ h j).view.read (Elt F) f) Finset.univ)
      = (half σ h j).view.read (Elt F) f := by
  funext y
  obtain ⟨x, rfl⟩ := (Shape.reshapeEquiv (s := S1x512x256) (s' := S512x256) rfl).surjective y
  exact View.read_write_of_mem (v := (flat σ h' j).view) g _ (Finset.mem_univ x)

/-- Sending a slot: the sent slot and the one written leave the device's hands; a credit for the departure comes. -/
theorem send {Q : PUnit → sProp 𝕄} {σ : Bool} {h : Fin 3} {j : Fin 2} {p : Dev nD} (e : p = nb σ c) {l : List Hop} {k : KProg F} :
    iprop(known m K ∗ owing c (debts c ((σ, h, j) :: l)) ∗ ticket c (σ, h, j) ∗ slotAt σ c h.castSucc j (partial_ m σ h.val j c)
        ∗ slotAny σ (nb σ c) h.succ j)
      ⊢ iprop(((owing c (debts c l) ∗ cred (tallyAt (xferCell c (Hop.out (σ, h, j))) () N)) -∗ runs c k Q) -∗ runs c (sendP σ h j p k) Q) := by
  subst e
  unfold owing ticket slotAny
  iintro ⟨#HK, ⟨%W, Ho⟩, ⟨Ht, Ht'⟩, Hs, ⟨%Y, Hd⟩⟩ Hk
  ihave HA := (known_xfer m K c (Hop.out (σ, h, j))) $$ HK
  icases HA with ⟨#HI, #HR, -⟩
  ihave HB := (known_xfer m K (nb σ c) (Hop.inn (σ, h, j))) $$ HK
  icases HB with ⟨#HI', #HR', -⟩
  unfold slotAt owns
  icases Hs with ⟨%fs, %hfs, Hs⟩
  icases Hd with ⟨%fd, %hfd, Hd⟩
  unfold sendP
  iapply (Rounds.wp_send_pointsTo 𝒱₀ ERing (sched m) (c : Thread nD τ) none (c' := (nb σ c : Thread nD τ))
    (src := flat σ h.castSucc j) (dst := flat σ h.succ j) (sS := .dma (sendSem σ h j)) (sem := .dma (recvSem σ h j))
    (fs := fs) (fd := fd) (q := fullShare)
    (κ₁ := K (c, some (Hop.out (σ, h, j)))) (κ₂ := K (nb σ c, some (Hop.inn (σ, h, j)))) (r₁ := 0) (r₂ := 0) (d₁ := false) (d₂ := false)
    (by rw [duties_xfer m c (live_out (σ, h, j))]; exact Finset.mem_singleton_self _)
    (by rw [duties_xfer m (nb σ c) (live_inn (σ, h, j))]; exact Finset.mem_singleton_self _)
    () () N (flat_amount σ h.succ j _) rfl rfl (debts c l) rfl (W := W) ?hp1 ?hp2) $$ [Hs Hd Ho Ht Ht']
  case hp1 =>
    rw [payload_out m c (σ, h, j)]
    unfold slotAt owns
    iintro H
    iexists fs
    isplitr; · ipureintro; exact hfs
    rw [View.set_reshape]
    iexact H
  case hp2 =>
    rw [payload_inn m (nb σ c) (σ, h, j)]
    unfold slotAt owns
    iintro H
    iexists _
    isplitr [H]
    rotate_left
    · rw [View.set_reshape]
      iexact H
    · ipureintro
      dsimp only
      rw [nb_not, ← hfs]
      exact read_copied σ h.castSucc h.succ j fs fd
  · isplitr; · iexact HI
    isplitr; · iexact HI'
    isplitl [Hs]; · rw [View.set_reshape]; iexact Hs
    isplitl [Hd]; · rw [View.set_reshape]; iexact Hd
    isplitl [Ho]; · iexact Ho
    isplitl [Ht]; · iexact Ht
    isplitr; · iexact HR
    isplitl [Ht']; · iexact Ht'
    iexact HR'
  iintro ⟨Hc, Ho⟩
  iapply Hk
  isplitl [Ho]
  · iexists W; iexact Ho
  iexact Hc

/-- Waiting for a transfer semaphore's round: its place moves on, and what the count hands over comes. -/
theorem wait_xfer {Q : PUnit → sProp 𝕄} {q : Key} (hq : live q = true) {O : CellTallies nD τ sig Unit}
    (hO : (levAts idx level : sProp 𝕄) ⊢ MayWait (c : Thread nD τ) (.dma (dsem q)) () O) {α β : Memref sig .tc .vmem S512x256 .bf16} {hα hβ}
    {k : KProg F} :
    iprop(known m K ∗ owing c O ∗ place c q 0 ∗ cred (tallyAt (xferCell c q) () N))
      ⊢ iprop(((owing c O ∗ place c q 1 ∗ (sched m).payload (xferCell c q) 0 false) -∗ runs c k Q)
        -∗ runs c (.op (.waitDma2 (dsem q) α β hα hβ) fun _ => k) Q) := by
  unfold owing place
  iintro ⟨#HK, ⟨%W, Ho⟩, Hp, Hc⟩ Hk
  ihave HA := (known_xfer m K c q) $$ HK
  icases HA with ⟨#HI, #HR, #HL⟩
  iapply (Rounds.wp_wait_rest_token 𝒱₀ ERing (sched m) (c : Thread nD τ) none (κ := K (c, some q))
      (wpE_waitDma2_eq 𝒱₀ (c : Thread nD τ) none Set.univ) (Set.mem_univ _) (k' := β.view.dmaCredit) () (O := O) (W := W) (R := 0) (m := 0) (T := ∅)
      (by rw [Nat.zero_add, expect_xfer m c hq])) $$ [Ho Hp Hc]
  · isplitr; · iexact HI
    isplitl [Hc]; · iexact Hc
    isplitl [Ho]; · iexact Ho
    isplitr; · iapply hO; iexact HL
    iexact Hp
  iintro ⟨Ho, Hp, -, Hpay⟩
  ihave Hpay' := (Entails.of_eq (rest_xfer m c hq)) $$ Hpay
  iapply Hk
  isplitl [Ho]
  · iexists (insert (SemLoc.dma (dsem q), ()) W); iexact Ho
  isplitl [Hp]; · iexact Hp
  iexact Hpay'

end Cert.RingKernelIdeal

end

end
-- ==== Proof.KernelIdeal.World.lean ====
/-
# The phases on a device's whole state

How far each hop and each quarter of the result has come, everything a device holds then, and how each phase moves one
of them on.
-/
module

public import proofs.«01_k».proof.Proof.KernelIdeal.Steps

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAll ℕ

variable (m : (ℓ : Loc nD τ sig) → Buf (Elt F) ℓ) (K : Dev nD × Option Key → ℕ) (c : Dev nD)

/-! ## Progress -/

/-- A hop's stages: not made yet, sent, its counterpart from the other neighbour arrived, its departure counted. -/
inductive Stage
  | idle | sent | met | done
  deriving DecidableEq

/-- What a hop leaves on the device besides the tickets: its places and the credit to await the arrival. -/
def hopDue (s : Hop) : sProp 𝕄 :=
  iprop(place c s.out 0 ∗ place c s.inn 0 ∗ cred (tallyAt (xferCell c s.inn) () N))

/-- What a device holds for a hop at a stage. -/
def hopAt (s : Hop) : Stage → sProp 𝕄
  | .idle => iprop(ticket c s ∗ slotAny (F := F) s.1 (nb s.1 c) s.2.1.succ s.2.2 ∗ hopDue (F := F) c s)
  | .sent => iprop(cred (tallyAt (xferCell c s.out) () N) ∗ hopDue (F := F) c s)
  | .met => iprop(cred (tallyAt (xferCell c s.out) () N) ∗ place c s.out 0 ∗ place c s.inn 1)
  | .done => iprop(slotAt s.1 c s.2.1.castSucc s.2.2 (partial_ m s.1 s.2.1.val s.2.2 c) ∗ place c s.out 1 ∗ place c s.inn 1)

/-- A lane is one ring's half. -/
abbrev Lane : Type := Bool × Fin 2

/-- A lane's stages: not begun, begun, and its quarter of the result written. -/
inductive LaneStage
  | fresh | begun | written
  deriving DecidableEq

/-- What a device holds for a lane at a stage. -/
def laneAt (t : Lane) : LaneStage → sProp 𝕄
  | .fresh => iprop(slotAny (F := F) t.1 c 0 t.2 ∗ ∃ Y, quarterAt c t.1 t.2 Y)
  | .begun => iprop(∃ Y, quarterAt c t.1 t.2 Y)
  | .written => iprop(slotAt t.1 c 3 t.2 (partial_ m t.1 2 t.2 (nb (!t.1) c)) ∗ quarterAt c t.1 t.2 (quarter m t.1 t.2 c))

/-- All a device holds, the hops `l` still to be made. -/
def world (a : Hop → Stage) (b : Lane → LaneStage) (l : List Hop) : sProp 𝕄 :=
  iprop(argHeld m c ∗ owing c (debts c l) ∗ (bigSep Finset.univ fun s => hopAt m c s (a s)) ∗ bigSep Finset.univ fun t => laneAt m c t (b t))

variable {c} {m} {K}
variable {a : Hop → Stage} {b : Lane → LaneStage} {l : List Hop} {k : KProg F}

/-! ## The phases -/

/-- A lane begins: its first slot comes to hold the device's first piece. -/
theorem fill_step {Q : PUnit → sProp 𝕄} {σ : Bool} {j : Fin 2} {o : Fin 3 → ℕ} {ho} (e : o = off σ 0 j c) (hb : b (σ, j) = .fresh)
    (h : iprop(known m K ∗ slotAt σ c 0 j (partial_ m σ 0 j c) ∗ world m c a (Function.update b (σ, j) .begun) l) ⊢ runs c k Q) :
    iprop(known m K ∗ world m c a b l) ⊢ runs c (fillP σ j o ho k) Q := by
  unfold world
  iintro ⟨#HK, Hx, Ho, Ha, Hb⟩
  ihave Hb' := (bigSep_univ_turn (fun t => laneAt m c t) b (σ, j)) $$ Hb
  icases Hb' with ⟨Hl, Hb⟩
  rw [hb]
  ihave Hl' := (show laneAt m c (σ, j) .fresh ⊢ iprop((∃ Y, slotAt σ c 0 j Y) ∗ ∃ Y, quarterAt c σ j Y) from .rfl) $$ Hl
  icases Hl' with ⟨⟨%Y, Hs⟩, Hq⟩
  unfold fillP
  iapply (load_arg m e) $$ Hx
  iintro Hx
  iapply load_slot $$ Hs
  iintro Hs
  iapply (store_slot (Z := partial_ m σ 0 j c)) $$ Hs
  iintro Hs
  iapply h
  unfold world
  isplitr; · iexact HK
  isplitl [Hs]; · iexact Hs
  isplitl [Hx]; · iexact Hx
  isplitl [Ho]; · iexact Ho
  isplitl [Ha]; · iexact Ha
  ihave Hb' := Hb $$ %LaneStage.begun
  iapply Hb'
  rw [show laneAt m c (σ, j) .begun = iprop(∃ Y, quarterAt c σ j Y) from rfl]
  iexact Hq

/-- A hop is made. -/
theorem send_step {Q : PUnit → sProp 𝕄} {σ : Bool} {h : Fin 3} {j : Fin 2} {p : Dev nD} (e : p = nb σ c) (ha : a (σ, h, j) = .idle)
    (hk : iprop(known m K ∗ world m c (Function.update a (σ, h, j) .sent) b l) ⊢ runs c k Q) :
    iprop(known m K ∗ slotAt σ c h.castSucc j (partial_ m σ h.val j c) ∗ world m c a b ((σ, h, j) :: l)) ⊢ runs c (sendP σ h j p k) Q := by
  unfold world
  iintro ⟨#HK, Hs, Hx, Ho, Ha, Hb⟩
  ihave Ha' := (bigSep_univ_turn (fun s => hopAt m c s) a (σ, h, j)) $$ Ha
  icases Ha' with ⟨Hl, Ha⟩
  rw [ha]
  ihave Hl' := (show hopAt m c (σ, h, j) .idle ⊢ iprop(ticket c (σ, h, j) ∗ slotAny (F := F) σ (nb σ c) h.succ j ∗ hopDue (F := F) c (σ, h, j)) from .rfl) $$ Hl
  icases Hl' with ⟨Ht, Hd, Hr⟩
  iapply (send m K e) $$ [Hs Ho Ht Hd]
  · isplitr; · iexact HK
    isplitl [Ho]; · iexact Ho
    isplitl [Ht]; · iexact Ht
    isplitl [Hs]; · iexact Hs
    iexact Hd
  iintro ⟨Ho, Hc⟩
  iapply hk
  unfold world
  isplitr; · iexact HK
  isplitl [Hx]; · iexact Hx
  isplitl [Ho]; · iexact Ho
  isplitl [Ha Hc Hr]
  · ihave Ha' := Ha $$ %Stage.sent
    iapply Ha'
    rw [show hopAt m c (σ, h, j) .sent = iprop(cred (tallyAt (xferCell c (Hop.out (σ, h, j))) () N) ∗ hopDue (F := F) c (σ, h, j)) from rfl]
    isplitl [Hc]; · iexact Hc
    iexact Hr
  iexact Hb

/-- The hop's counterpart arrives: the next slot comes, holding what the neighbour sent. -/
theorem await_step {Q : PUnit → sProp 𝕄} {σ : Bool} {h : Fin 3} {j : Fin 2} (ha : a (σ, h, j) = .sent) (hl : ∀ s ∈ l, h < s.2.1)
    (hk : iprop(known m K ∗ slotAt σ c h.succ j (partial_ m σ h.val j (nb (!σ) c)) ∗ world m c (Function.update a (σ, h, j) .met) b l) ⊢ runs c k Q) :
    iprop(known m K ∗ world m c a b l) ⊢ runs c (awaitP σ h j k) Q := by
  unfold world
  iintro ⟨#HK, Hx, Ho, Ha, Hb⟩
  ihave Ha' := (bigSep_univ_turn (fun s => hopAt m c s) a (σ, h, j)) $$ Ha
  icases Ha' with ⟨Hl, Ha⟩
  rw [ha]
  ihave Hl' := (show hopAt m c (σ, h, j) .sent ⊢ iprop(cred (tallyAt (xferCell c (Hop.out (σ, h, j))) () N) ∗ place c (Hop.out (σ, h, j)) 0
    ∗ place c (Hop.inn (σ, h, j)) 0 ∗ cred (tallyAt (xferCell c (Hop.inn (σ, h, j))) () N)) from .rfl) $$ Hl
  icases Hl' with ⟨Hc, Hp, Hp', Hc'⟩
  unfold awaitP
  iapply (wait_xfer m K (live_inn (σ, h, j)) (mayWait_inn c (σ, h, j) l hl)) $$ [Ho Hp' Hc']
  · isplitr; · iexact HK
    isplitl [Ho]; · iexact Ho
    isplitl [Hp']; · iexact Hp'
    iexact Hc'
  rw [payload_inn m c (σ, h, j)]
  iintro ⟨Ho, Hp', Hs⟩
  iapply hk
  unfold world
  isplitr; · iexact HK
  isplitl [Hs]; · iexact Hs
  isplitl [Hx]; · iexact Hx
  isplitl [Ho]; · iexact Ho
  isplitl [Ha Hc Hp Hp']
  · ihave Ha' := Ha $$ %Stage.met
    iapply Ha'
    rw [show hopAt m c (σ, h, j) .met = iprop(cred (tallyAt (xferCell c (Hop.out (σ, h, j))) () N) ∗ place c (Hop.out (σ, h, j)) 0 ∗ place c (Hop.inn (σ, h, j)) 1) from rfl]
    isplitl [Hc]; · iexact Hc
    isplitl [Hp] <;> iassumption
  iexact Hb

/-- The device adds its piece to what arrived. -/
theorem add_step {Q : PUnit → sProp 𝕄} {σ : Bool} {i : Fin 4} {h : ℕ} {j : Fin 2} {o : Fin 3 → ℕ} {ho} (e : o = off σ (h + 1) j c)
    (hk : iprop(known m K ∗ slotAt σ c i j (partial_ m σ (h + 1) j c) ∗ world m c a b l) ⊢ runs c k Q) :
    iprop(known m K ∗ slotAt σ c i j (partial_ m σ h j (nb (!σ) c)) ∗ world m c a b l) ⊢ runs c (addP σ i j o ho k) Q := by
  unfold world
  iintro ⟨#HK, Hs, Hx, Hw⟩
  unfold addP
  iapply load_slot $$ Hs
  iintro Hs
  iapply (load_arg m e) $$ Hx
  iintro Hx
  iapply load_slot $$ Hs
  iintro Hs
  iapply (store_slot (Z := partial_ m σ (h + 1) j c)) $$ Hs
  iintro Hs
  iapply hk
  unfold world
  isplitr; · iexact HK
  isplitl [Hs]; · iexact Hs
  isplitl [Hx]; · iexact Hx
  iexact Hw

/-- The last arrival and the device's last piece, added, go into the result. -/
theorem out_step {Q : PUnit → sProp 𝕄} {σ : Bool} {j : Fin 2} {o : Fin 3 → ℕ} {ho} (e : o = off σ 3 j c) (hb : b (σ, j) = .begun)
    (hk : iprop(known m K ∗ world m c a (Function.update b (σ, j) .written) l) ⊢ runs c k Q) :
    iprop(known m K ∗ slotAt σ c 3 j (partial_ m σ 2 j (nb (!σ) c)) ∗ world m c a b l) ⊢ runs c (outP σ j o ho k) Q := by
  unfold world
  iintro ⟨#HK, Hs, Hx, Ho, Ha, Hb⟩
  ihave Hb' := (bigSep_univ_turn (fun t => laneAt m c t) b (σ, j)) $$ Hb
  icases Hb' with ⟨Hl, Hb⟩
  rw [hb]
  ihave Hl' := (show laneAt m c (σ, j) .begun ⊢ iprop(∃ Y, quarterAt c σ j Y) from .rfl) $$ Hl
  icases Hl' with ⟨%Y, Hq⟩
  unfold outP
  iapply load_slot $$ Hs
  iintro Hs
  iapply (load_arg m e) $$ Hx
  iintro Hx
  iapply load_quarter $$ Hq
  iintro Hq
  iapply (store_quarter (Z := quarter m σ j c)) $$ Hq
  iintro Hq
  iapply hk
  unfold world
  isplitr; · iexact HK
  isplitl [Hx]; · iexact Hx
  isplitl [Ho]; · iexact Ho
  isplitl [Ha]; · iexact Ha
  ihave Hb' := Hb $$ %LaneStage.written
  iapply Hb'
  rw [show laneAt m c (σ, j) .written = iprop(slotAt σ c 3 j (partial_ m σ 2 j (nb (!σ) c)) ∗ quarterAt c σ j (quarter m σ j c)) from rfl]
  isplitl [Hs] <;> iassumption

/-- The hop's departure is counted: the sent slot comes back. -/
theorem leave_step {Q : PUnit → sProp 𝕄} {σ : Bool} {h : Fin 3} {j : Fin 2} (ha : a (σ, h, j) = .met)
    (hk : iprop(known m K ∗ world m c (Function.update a (σ, h, j) .done) b []) ⊢ runs c k Q) :
    iprop(known m K ∗ world m c a b []) ⊢ runs c (leaveP σ h j k) Q := by
  unfold world
  iintro ⟨#HK, Hx, Ho, Ha, Hb⟩
  ihave Ha' := (bigSep_univ_turn (fun s => hopAt m c s) a (σ, h, j)) $$ Ha
  icases Ha' with ⟨Hl, Ha⟩
  rw [ha]
  ihave Hl' := (show hopAt m c (σ, h, j) .met ⊢ iprop(cred (tallyAt (xferCell c (Hop.out (σ, h, j))) () N) ∗ place c (Hop.out (σ, h, j)) 0
    ∗ place c (Hop.inn (σ, h, j)) 1) from .rfl) $$ Hl
  icases Hl' with ⟨Hc, Hp, Hp'⟩
  unfold leaveP
  iapply (wait_xfer m K (live_out (σ, h, j)) (O := debts c [])
    (by rw [show debts c [] = 0 from rfl, MayWait_zero]; iintro -; iempintro)) $$ [Ho Hp Hc]
  · isplitr; · iexact HK
    isplitl [Ho]; · iexact Ho
    isplitl [Hp]; · iexact Hp
    iexact Hc
  rw [payload_out m c (σ, h, j)]
  iintro ⟨Ho, Hp, Hs⟩
  iapply hk
  unfold world
  isplitr; · iexact HK
  isplitl [Hx]; · iexact Hx
  isplitl [Ho]; · iexact Ho
  isplitl [Ha Hs Hp Hp']
  · ihave Ha' := Ha $$ %Stage.done
    iapply Ha'
    rw [show hopAt m c (σ, h, j) .done = iprop(slotAt σ c h.castSucc j (partial_ m σ h.val j c) ∗ place c (Hop.out (σ, h, j)) 1 ∗ place c (Hop.inn (σ, h, j)) 1) from rfl]
    isplitl [Hs]; · iexact Hs
    isplitl [Hp] <;> iassumption
  iexact Hb

/-- What the handshake takes: the two duties at the neighbours' barriers, the place at the own one and the credit for it. -/
def toGreet (c : Dev nD) : sProp 𝕄 :=
  iprop(dutyTok ERing (barCell (nb true c)) 0 false ∗ dutyTok ERing (barCell (nb false c)) 0 true ∗ atPos ERing (barCell c) 0 ∅ 0
    ∗ cred (tallyAt (barCell c) () 2))

/-- The handshake: the device lends its slots to the neighbours and gets theirs. -/
theorem greet_step {Q : PUnit → sProp 𝕄} {p q : Dev nD} (ep : p = nb true c) (eq : q = nb false c) {R : sProp 𝕄}
    (hk : iprop(known m K ∗ atPos ERing (barCell c) 1 ∅ 0 ∗ lent (F := F) false (nb false c) ∗ lent (F := F) true (nb true c)
      ∗ owing c (debts c hops) ∗ R) ⊢ runs c k Q) :
    iprop(known m K ∗ toGreet (F := F) c ∗ lent (F := F) false c ∗ lent (F := F) true c ∗ owing c (owed0 c) ∗ R) ⊢ runs c (greetP p q k) Q := by
  subst ep eq
  unfold toGreet owing greetP
  iintro ⟨#HK, ⟨Ht, Ht', Hp, Hc⟩, Hs, Hs', ⟨%W, Ho⟩, HR⟩
  ihave HA := (known_bar m K c) $$ HK
  icases HA with ⟨#HI, -, #HL⟩
  ihave HA := (known_bar m K (nb true c)) $$ HK
  icases HA with ⟨#HIl, #HRl, -⟩
  ihave HA := (known_bar m K (nb false c)) $$ HK
  icases HA with ⟨#HIr, #HRr, -⟩
  iapply (Rounds.wp_signal 𝒱₀ ERing (sched m) (c : Thread nD τ) none (dst := (nb true c : Thread nD τ)) (κ := K (nb true c, none))
      (d := false) (by rw [duties_bar]; exact Finset.mem_univ _) (amount_bar m (nb true c) false) () (owed1 c) rfl) $$ [Ho Ht Hs]
  · isplitr; · iexact HIl
    isplitl [Ho]; · iexact Ho
    isplitl [Ht]; · iexact Ht
    isplitl [Hs]
    · rw [payload_bar, show nb false (nb true c) = c from nb_of_not false c]; iexact Hs
    iexact HRl
  iintro Ho
  iapply (Rounds.wp_signal 𝒱₀ ERing (sched m) (c : Thread nD τ) none (dst := (nb false c : Thread nD τ)) (κ := K (nb false c, none))
      (d := true) (by rw [duties_bar]; exact Finset.mem_univ _) (amount_bar m (nb false c) true) () (debts c hops) rfl) $$ [Ho Ht' Hs']
  · isplitr; · iexact HIr
    isplitl [Ho]; · iexact Ho
    isplitl [Ht']; · iexact Ht'
    isplitl [Hs']
    · rw [payload_bar, show nb true (nb false c) = c from nb_of_not true c]; iexact Hs'
    iexact HRr
  iintro Ho
  iapply (Rounds.wp_wait_rest_token 𝒱₀ ERing (sched m) (c : Thread nD τ) none (κ := K (c, none))
      (wpE_semWait_eq 𝒱₀ (c : Thread nD τ) none Set.univ) (Set.mem_univ _) () (O := debts c hops) (W := W) (R := 0) (m := 0) (T := ∅)
      (by rw [expect_bar])) $$ [Ho Hp Hc]
  · isplitr; · iexact HI
    isplitl [Hc]; · iexact Hc
    isplitl [Ho]; · iexact Ho
    isplitr; · iapply (mayWait_bar c hops); iexact HL
    iexact Hp
  iintro ⟨Ho, Hp, -, Hpay⟩
  ihave Hpay' := (Entails.of_eq (rest_bar m c)) $$ Hpay
  icases Hpay' with ⟨H1, H2⟩
  iapply hk
  isplitr; · iexact HK
  isplitl [Hp]; · iexact Hp
  isplitl [H1]; · iexact H1
  isplitl [H2]; · iexact H2
  isplitl [Ho]
  · unfold owing; iexists (insert (SemLoc.reg barrier0, ()) W); iexact Ho
  iexact HR

end Cert.RingKernelIdeal

end

end
-- ==== Proof.KernelIdeal.Buffers.lean ====
/-
# The buffers and their parts

A ring's buffer is its eight half slots, and the result block its four quarters: owning the whole is owning the parts.
-/
module

public import proofs.«01_k».proof.Proof.KernelIdeal.World

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UAll ℕ

/-! ## Contents given part by part -/

section Glue

variable {s : Shape} {α : Type} [Nonempty α] {T : Type} (r : T → Rect s)

/-- The contents that have `Y t` in the rectangle `r t`. -/
def glue (Y : (t : T) → (r t).shape.Idx → α) : s.Idx → α :=
  Function.extend (fun p : (t : T) × (r t).shape.Idx => (r p.1).emb p.2) (fun p => Y p.1 p.2) fun _ => Classical.arbitrary α

/-- In each rectangle of a disjoint family they are what was given there. -/
theorem glue_emb (hd : ∀ t t', t ≠ t' → Disjoint (r t).set (r t').set) (Y : (t : T) → (r t).shape.Idx → α) (t : T) (x : (r t).shape.Idx) :
    glue r Y ((r t).emb x) = Y t x := by
  have hinj : Function.Injective (fun p : (t : T) × (r t).shape.Idx => (r p.1).emb p.2) := by
    rintro ⟨t, x⟩ ⟨t', x'⟩ (h : (r t).emb x = (r t').emb x')
    have ht : t = t' := by
      by_contra hn
      refine Finset.disjoint_left.mp (hd t t' hn) (?_ : (r t).emb x ∈ (r t).set) ?_
      · rw [← Rect.map_emb_univ]; exact Finset.mem_map_of_mem _ (Finset.mem_univ x)
      · rw [h, ← Rect.map_emb_univ]; exact Finset.mem_map_of_mem _ (Finset.mem_univ x')
    subst ht
    rw [(r t).emb.injective h]
  exact hinj.extend_apply _ _ (⟨t, x⟩ : (t : T) × (r t).shape.Idx)

end Glue

/-- Owning every slice of a disjoint covering family, each at something, is owning the memref at something. -/
theorem owns_any_of_rects {T : Type} [Fintype T] [DecidableEq T] (c : Dev nD) {sp : Space} {s : Shape} {e : EltTy} (M : Memref sig .tc sp s e)
    (r : T → Rect s) (hr : ∀ t a, (r t).stride a = 1) (hd : ∀ t t', t ≠ t' → Disjoint (r t).set (r t').set)
    (hcov : (Finset.univ : Finset T).biUnion (fun t => (r t).set) = Finset.univ) :
    (bigSep Finset.univ fun t => iprop(∃ Y, owns (c : Thread nD τ) (M.slice (r t) (hr t)) fullShare Y) : sProp 𝕄)
      ⊢ iprop(∃ X, owns (c : Thread nD τ) M fullShare X) := by
  iintro H
  ihave H' := (bigSep_exists_pi Finset.univ (fun (t : T) (Y : (r t).shape.Idx → Elt F e) =>
    (owns (c : Thread nD τ) (M.slice (r t) (hr t)) fullShare Y : sProp 𝕄))) $$ H
  icases H' with ⟨%Y, H⟩
  iexists glue r Y
  iapply (owns_of_rects (c : Thread nD τ) M fullShare r hr hd hcov (glue r Y))
  iapply (Entails.of_eq (bigSep_congr (s := Finset.univ) fun t _ => by
    rw [show (fun j => glue r Y ((r t).emb j)) = Y t from funext fun j => glue_emb r hd Y t j]))
  iexact H

/-! ## The half slots of a ring's buffer -/

abbrev slotOf (t : Fin 4 × Fin 2) : Rect S4x1024x256 := slotRect t.1 t.2

theorem slotOf_disjoint (t t' : Fin 4 × Fin 2) (h : t ≠ t') : Disjoint (slotOf t).set (slotOf t').set := by
  obtain ⟨a, b⟩ := t
  obtain ⟨a', b'⟩ := t'
  by_cases ha : a = a'
  · have hb : b.val ≠ b'.val := fun hb => h (by rw [ha, Fin.ext hb])
    refine Rect.unit_disjoint (1 : Fin 3) ?_
    show 512 * b.val + 512 ≤ 512 * b'.val ∨ 512 * b'.val + 512 ≤ 512 * b.val
    omega
  · have ha' : a.val ≠ a'.val := fun e => ha (Fin.ext e)
    refine Rect.unit_disjoint (0 : Fin 3) ?_
    show a.val + 1 ≤ a'.val ∨ a'.val + 1 ≤ a.val
    omega

theorem slotOf_cover : (Finset.univ : Finset (Fin 4 × Fin 2)).biUnion (fun t => (slotOf t).set) = Finset.univ := by
  ext i
  simp only [Finset.mem_biUnion, Finset.mem_univ, true_and, iff_true]
  have h0 : (i 0).val < 4 := (i 0).isLt
  have h1 : (i 1).val < 1024 := (i 1).isLt
  have h2 : (i 2).val < 256 := (i 2).isLt
  refine ⟨(⟨(i 0).val, h0⟩, ⟨(i 1).val / 512, by omega⟩), Rect.mem_set_unit.mpr fun a => ?_⟩
  fin_cases a
  · show (i 0).val ≤ (i 0).val ∧ (i 0).val < (i 0).val + 1
    omega
  · show 512 * ((i 1).val / 512) ≤ (i 1).val ∧ (i 1).val < 512 * ((i 1).val / 512) + 512
    omega
  · show 0 ≤ (i 2).val ∧ (i 2).val < 0 + 256
    omega

/-- A ring's buffer taken apart into its half slots, -/
theorem slots_split (σ : Bool) (c : Dev nD) :
    (iprop(∃ X, owns (c : Thread nD τ) (comm σ) fullShare X) : sProp 𝕄) ⊢ bigSep Finset.univ fun t : Fin 4 × Fin 2 => slotAny (F := F) σ c t.1 t.2 := by
  exact exists_elim fun X => (owns_rects (c : Thread nD τ) (comm σ) fullShare slotOf (fun _ _ => rfl) slotOf_disjoint slotOf_cover X).trans
    (bigSep_mono fun t _ => exists_intro (Φ := fun Y => slotAt σ c t.1 t.2 Y) fun j => X ((slotOf t).emb j))

/-- and put together. -/
theorem slots_join (σ : Bool) (c : Dev nD) :
    (bigSep Finset.univ fun t : Fin 4 × Fin 2 => slotAny (F := F) σ c t.1 t.2) ⊢ (iprop(∃ X, owns (c : Thread nD τ) (comm σ) fullShare X) : sProp 𝕄) :=
  owns_any_of_rects c (comm σ) slotOf (fun _ _ => rfl) slotOf_disjoint slotOf_cover

/-! ## The quarters of the result block -/

abbrev quarterOf (t : Lane) : Rect S1024x512 := outRect t.1 t.2

theorem quarterOf_disjoint (t t' : Lane) (h : t ≠ t') : Disjoint (quarterOf t).set (quarterOf t').set := by
  obtain ⟨a, b⟩ := t
  obtain ⟨a', b'⟩ := t'
  by_cases ha : a = a'
  · have hb : b.val ≠ b'.val := fun hb => h (by rw [ha, Fin.ext hb])
    refine Rect.unit_disjoint (0 : Fin 2) ?_
    show 512 * b.val + 512 ≤ 512 * b'.val ∨ 512 * b'.val + 512 ≤ 512 * b.val
    omega
  · refine Rect.unit_disjoint (1 : Fin 2) ?_
    show 256 * a.toNat + 256 ≤ 256 * a'.toNat ∨ 256 * a'.toNat + 256 ≤ 256 * a.toNat
    rcases a <;> rcases a' <;> first | exact absurd rfl ha | decide

/-- The lane whose quarter holds an index of the result block. -/
def laneOf (i : S1024x512.Idx) : Lane :=
  (decide (256 ≤ (i 1).val), ⟨(i 0).val / 512, by have h : (i 0).val < 1024 := (i 0).isLt; omega⟩)

theorem mem_quarterOf (i : S1024x512.Idx) : i ∈ (quarterOf (laneOf i)).set := by
  have h0 : (i 0).val < 1024 := (i 0).isLt
  have h1 : (i 1).val < 512 := (i 1).isLt
  refine Rect.mem_set_unit.mpr fun a => ?_
  fin_cases a
  · show 512 * ((i 0).val / 512) ≤ (i 0).val ∧ (i 0).val < 512 * ((i 0).val / 512) + 512
    omega
  · show 256 * (decide (256 ≤ (i 1).val)).toNat ≤ (i 1).val ∧ (i 1).val < 256 * (decide (256 ≤ (i 1).val)).toNat + 256
    by_cases h : 256 ≤ (i 1).val
    · rw [decide_eq_true h]; show 256 * 1 ≤ _ ∧ _ < 256 * 1 + 256; omega
    · rw [decide_eq_false h]; show 256 * 0 ≤ _ ∧ _ < 256 * 0 + 256; omega

theorem quarterOf_cover : (Finset.univ : Finset Lane).biUnion (fun t => (quarterOf t).set) = Finset.univ := by
  ext i
  simp only [Finset.mem_biUnion, Finset.mem_univ, true_and, iff_true]
  exact ⟨laneOf i, mem_quarterOf i⟩

variable (m : (ℓ : Loc nD τ sig) → Buf (Elt F) ℓ)

/-- The result block of device `c`: its four quarters. -/
def result (c : Dev nD) : S1024x512.Idx → Elt F .f32 :=
  haveI : Nonempty (Elt F .f32) := Elt.nonempty F _
  glue quarterOf fun t => quarter m t.1 t.2 c

theorem result_emb (c : Dev nD) (t : Lane) (x : (quarterOf t).shape.Idx) : result m c ((quarterOf t).emb x) = quarter m t.1 t.2 c x :=
  haveI : Nonempty (Elt F .f32) := Elt.nonempty F _
  glue_emb quarterOf quarterOf_disjoint _ t x

/-- The result block taken apart, -/
theorem quarters_split (c : Dev nD) :
    (iprop(∃ X, owns (c : Thread nD τ) oRef fullShare X) : sProp 𝕄) ⊢ bigSep Finset.univ fun t : Lane => iprop(∃ Y, quarterAt (F := F) c t.1 t.2 Y) := by
  exact exists_elim fun X => (owns_rects (c : Thread nD τ) oRef fullShare quarterOf (fun _ _ => rfl) quarterOf_disjoint quarterOf_cover X).trans
    (bigSep_mono fun t _ => exists_intro (Φ := fun Y => quarterAt c t.1 t.2 Y) fun j => X ((quarterOf t).emb j))

/-- and put together from the quarters that the lanes wrote. -/
theorem quarters_join (c : Dev nD) :
    (bigSep Finset.univ fun t : Lane => quarterAt (F := F) c t.1 t.2 (quarter m t.1 t.2 c)) ⊢ (owns (c : Thread nD τ) oRef fullShare (result m c) : sProp 𝕄) := by
  refine BIBase.Entails.trans ?_ (owns_of_rects (c : Thread nD τ) oRef fullShare quarterOf (fun _ _ => rfl) quarterOf_disjoint quarterOf_cover (result m c))
  exact Entails.of_eq (bigSep_congr (s := Finset.univ) fun t _ => by
    rw [show (fun j => result m c ((quarterOf t).emb j)) = quarter m t.1 t.2 c from funext fun j => result_emb m c t j]
    rfl)

end Cert.RingKernelIdeal

end

end
-- ==== Proof.KernelIdeal.Walk.lean ====
/-
# The body's phases in order

The targets and offsets that the program computes are those of the rings, and the phases, one after another, take every
hop and every quarter from its first stage to its last.
-/
module

public import proofs.«01_k».proof.Proof.KernelIdeal.Buffers

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAll ℕ

/-! ## The program's targets and offsets -/

/-- The devices the program computes are the two neighbours. -/
theorem targets : ∀ d : Dev nD,
    (k0_dev1 d = (nb true d).val ∧ k0_dev2 d = (nb false d).val)
    ∧ (k0_dev3 d = (nb false d).val ∧ k0_dev4 d = (nb true d).val ∧ k0_dev5 d = (nb false d).val ∧ k0_dev6 d = (nb true d).val)
    ∧ (k0_dev7 d = (nb false d).val ∧ k0_dev8 d = (nb true d).val ∧ k0_dev9 d = (nb false d).val ∧ k0_dev10 d = (nb true d).val)
    ∧ (k0_dev11 d = (nb false d).val ∧ k0_dev12 d = (nb true d).val ∧ k0_dev13 d = (nb false d).val ∧ k0_dev14 d = (nb true d).val) := by
  decide +kernel

/-- The offsets the program computes are those of the pieces. -/
theorem offsets : ∀ d : Dev nD,
    (k0_off1 d = off false 0 0 d ∧ k0_off2 d = off true 0 0 d ∧ k0_off3 d = off false 0 1 d ∧ k0_off4 d = off true 0 1 d)
    ∧ (k0_off5 d 1#32 = off false 1 0 d ∧ k0_off6 d 1#32 = off true 1 0 d ∧ k0_off7 d 1#32 = off false 1 1 d ∧ k0_off8 d 1#32 = off true 1 1 d)
    ∧ (k0_off5 d 2#32 = off false 2 0 d ∧ k0_off6 d 2#32 = off true 2 0 d ∧ k0_off7 d 2#32 = off false 2 1 d ∧ k0_off8 d 2#32 = off true 2 1 d)
    ∧ (k0_off9 d = off false 3 0 d ∧ k0_off10 d = off true 3 0 d ∧ k0_off11 d = off false 3 1 d ∧ k0_off12 d = off true 3 1 d) := by
  decide +kernel

/-! ## The phases in their groups -/

section Groups
variable {m : (ℓ : Loc nD τ sig) → Buf (Elt F) ℓ} {K : Dev nD × Option Key → ℕ} {c : Dev nD}
variable {a : Hop → Stage} {b : Lane → LaneStage} {l : List Hop} {k : KProg F}

/-- A lane begins with its first hop. -/
theorem begin_lane {Q : PUnit → sProp 𝕄} (σ : Bool) (j : Fin 2) {o : Fin 3 → ℕ} {ho} {p : Dev nD} (eo : o = off σ 0 j c) (ep : p.val = (nb σ c).val)
    (hb : b (σ, j) = .fresh) (ha : a (σ, 0, j) = .idle)
    (hk : iprop(known m K ∗ world m c (Function.update a (σ, 0, j) .sent) (Function.update b (σ, j) .begun) l) ⊢ runs c k Q) :
    iprop(known m K ∗ world m c a b ((σ, 0, j) :: l)) ⊢ runs c (fillP σ j o ho <| sendP σ 0 j p k) Q :=
  fill_step eo hb (send_step (h := 0) (Fin.ext ep) ha hk)

/-- What arrived is added to and sent on. -/
theorem pass_on {Q : PUnit → sProp 𝕄} (σ : Bool) (h : Fin 2) (j : Fin 2) {o : Fin 3 → ℕ} {ho} {p : Dev nD} (eo : o = off σ (h.val + 1) j c)
    (ep : p.val = (nb σ c).val) (ha : a (σ, h.castSucc, j) = .sent) (ha' : a (σ, h.succ, j) = .idle)
    (hl : ∀ s ∈ (σ, h.succ, j) :: l, h.castSucc < s.2.1)
    (hk : iprop(known m K ∗ world m c (Function.update (Function.update a (σ, h.castSucc, j) .met) (σ, h.succ, j) .sent) b l) ⊢ runs c k Q) :
    iprop(known m K ∗ world m c a b ((σ, h.succ, j) :: l))
      ⊢ runs c (awaitP σ h.castSucc j <| addP σ h.succ.castSucc j o ho <| sendP σ h.succ j p k) Q :=
  await_step ha hl (add_step (i := h.succ.castSucc) (h := h.val) eo (send_step (h := h.succ) (Fin.ext ep)
    (by rw [Function.update_of_ne (fun e => by have := congrArg (fun s : Hop => s.2.1.val) e; simp at this)]; exact ha') hk))

/-- The last arrival goes into the result. -/
theorem end_lane {Q : PUnit → sProp 𝕄} (σ : Bool) (j : Fin 2) {o : Fin 3 → ℕ} {ho} (eo : o = off σ 3 j c)
    (ha : a (σ, 2, j) = .sent) (hb : b (σ, j) = .begun)
    (hk : iprop(known m K ∗ world m c (Function.update a (σ, 2, j) .met) (Function.update b (σ, j) .written) []) ⊢ runs c k Q) :
    iprop(known m K ∗ world m c a b []) ⊢ runs c (awaitP σ 2 j <| outP σ j o ho k) Q :=
  await_step (h := 2) ha (fun s hs => absurd hs List.not_mem_nil) (out_step eo hb hk)

end Groups

/-! ## The walk -/

variable (m : (ℓ : Loc nD τ sig) → Buf (Elt F) ℓ) (K : Dev nD × Option Key → ℕ) (c : Dev nD)

/-- The end: every hop done, every quarter written, nothing owed. -/
theorem finish_step {a : Hop → Stage} {b : Lane → LaneStage} (ha : ∀ s, a s = .done) (hb : ∀ t, b t = .written) :
    iprop(known m K ∗ world m c a b []) ⊢ runs (F := F) c (.ret ⟨⟩) fun _ => world m c (fun _ => .done) (fun _ => .written) [] := by
  rw [show a = fun _ => .done from funext ha, show b = fun _ => .written from funext hb]
  iintro ⟨-, H⟩
  unfold runs
  rw [wp_ret]
  imodintro
  iexact H

set_option maxRecDepth 65536 in
/-- From the handshake on, the phases take every hop and every quarter from its first stage to its last. -/
theorem walk :
    iprop(known m K ∗ world m c (fun _ => .idle) (fun _ => .fresh) hops)
      ⊢ runs c (ringPhases c) fun _ => world m c (fun _ => .done) (fun _ => .written) [] := by
  obtain ⟨-, ⟨t3, t4, t5, t6⟩, ⟨t7, t8, t9, t10⟩, t11, t12, t13, t14⟩ := targets c
  obtain ⟨⟨o1, o2, o3, o4⟩, ⟨o5, o6, o7, o8⟩, ⟨p5, p6, p7, p8⟩, o9, o10, o11, o12⟩ := offsets c
  unfold ringPhases hops
  refine begin_lane false 0 o1 t3 (by rfl) (by rfl) ?_
  refine begin_lane true 0 o2 t4 (by rfl) (by rfl) ?_
  refine begin_lane false 1 o3 t5 (by rfl) (by rfl) ?_
  refine begin_lane true 1 o4 t6 (by rfl) (by rfl) ?_
  refine pass_on false 0 0 o5 t7 (by rfl) (by rfl) (by decide) ?_
  refine pass_on true 0 0 o6 t8 (by rfl) (by rfl) (by decide) ?_
  refine pass_on false 0 1 o7 t9 (by rfl) (by rfl) (by decide) ?_
  refine pass_on true 0 1 o8 t10 (by rfl) (by rfl) (by decide) ?_
  refine pass_on false 1 0 p5 t11 (by rfl) (by rfl) (by decide) ?_
  refine pass_on true 1 0 p6 t12 (by rfl) (by rfl) (by decide) ?_
  refine pass_on false 1 1 p7 t13 (by rfl) (by rfl) (by decide) ?_
  refine pass_on true 1 1 p8 t14 (by rfl) (by rfl) (by decide) ?_
  refine end_lane false 0 o9 (by rfl) (by rfl) ?_
  refine end_lane true 0 o10 (by rfl) (by rfl) ?_
  refine end_lane false 1 o11 (by rfl) (by rfl) ?_
  refine end_lane true 1 o12 (by rfl) (by rfl) ?_
  refine leave_step (by rfl) (leave_step (by rfl) (leave_step (by rfl) (leave_step (by rfl) ?_)))
  refine leave_step (by rfl) (leave_step (by rfl) (leave_step (by rfl) (leave_step (by rfl) ?_)))
  refine leave_step (by rfl) (leave_step (by rfl) (leave_step (by rfl) (leave_step (by rfl) ?_)))
  exact finish_step m K c (by decide) (by decide)

end Cert.RingKernelIdeal

end

end
-- ==== Proof.KernelIdeal.Parts.lean ====
/-
# Families of resources taken apart

Slots, transfer semaphores and hops are families over small products; here are the ways in which they divide.
-/
module

public import proofs.«01_k».proof.Proof.KernelIdeal.Walk

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAll ℕ

/-! ## Divisions -/

section Divide

/-- A family over both rings is the two families. -/
theorem both_rings {α : Type} [Fintype α] (Φ : Bool × α → sProp 𝕄) :
    bigSep Finset.univ Φ = iprop((bigSep Finset.univ fun x => Φ (false, x)) ∗ bigSep Finset.univ fun x => Φ (true, x)) := by
  rw [bigSep_univ_prod, bigSep_univ_eq_bigSepL [false, true] (by decide) (by decide), bigSepL_cons_cons, bigSepL_singleton]
  rfl

/-- The half slots: those hops write and the first ones; and those hops send and the last ones. -/
def slotsInn : Hop ⊕ Lane ≃ Bool × Fin 4 × Fin 2 :=
  Equiv.ofBijective (Sum.elim (fun s => (s.1, s.2.1.succ, s.2.2)) fun t => (t.1, 0, t.2)) (by decide +kernel)
def slotsOut : Hop ⊕ Lane ≃ Bool × Fin 4 × Fin 2 :=
  Equiv.ofBijective (Sum.elim (fun s => (s.1, s.2.1.castSucc, s.2.2)) fun t => (t.1, 3, t.2)) (by decide +kernel)

/-- The key of a transfer semaphore that no hop uses: a departure of the last row, an arrival of the first. -/
abbrev idleKey (x : Bool × Bool × Fin 2) : Key := (x.1, x.2.1, if x.2.1 then 0 else 3, x.2.2)

theorem idleKey_live (x : Bool × Bool × Fin 2) : live (idleKey x) = false := by
  obtain ⟨σ, b, j⟩ := x; revert σ b j; decide

/-- The transfer semaphores: departures and arrivals of the hops, and the others. -/
def keyParts : (Hop ⊕ Hop) ⊕ (Bool × Bool × Fin 2) ≃ Key :=
  Equiv.ofBijective (Sum.elim (Sum.elim Hop.out Hop.inn) idleKey) (by decide +kernel)

theorem slots_inn (Φ : Bool × Fin 4 × Fin 2 → sProp 𝕄) :
    bigSep Finset.univ Φ
      = iprop((bigSep Finset.univ fun s : Hop => Φ (s.1, s.2.1.succ, s.2.2)) ∗ bigSep Finset.univ fun t : Lane => Φ (t.1, 0, t.2)) := by
  rw [bigSep_univ_equiv slotsInn, bigSep_univ_sum]; rfl
theorem slots_out (Φ : Bool × Fin 4 × Fin 2 → sProp 𝕄) :
    bigSep Finset.univ Φ
      = iprop((bigSep Finset.univ fun s : Hop => Φ (s.1, s.2.1.castSucc, s.2.2)) ∗ bigSep Finset.univ fun t : Lane => Φ (t.1, 3, t.2)) := by
  rw [bigSep_univ_equiv slotsOut, bigSep_univ_sum]; rfl
theorem keys_parts (Φ : Key → sProp 𝕄) :
    bigSep Finset.univ Φ
      = iprop(((bigSep Finset.univ fun s : Hop => Φ s.out) ∗ bigSep Finset.univ fun s : Hop => Φ s.inn) ∗ bigSep Finset.univ fun x => Φ (idleKey x)) := by
  rw [bigSep_univ_equiv keyParts, bigSep_univ_sum, bigSep_univ_sum]; rfl

end Divide

/-! ## The rings' buffers -/

/-- Both buffers of a device are the slots its hops are lent from elsewhere, and the first ones. -/
theorem comms_split (c : Dev nD) :
    iprop((∃ X, owns (c : Thread nD τ) (comm false) fullShare X) ∗ ∃ X, owns (c : Thread nD τ) (comm true) fullShare X)
      ⊢ (iprop((lent (F := F) false c ∗ lent (F := F) true c) ∗ bigSep Finset.univ fun t : Lane => slotAny (F := F) t.1 c 0 t.2) : sProp 𝕄) := by
  refine (BIClass.sep_mono (slots_split false c) (slots_split true c)).trans ?_
  refine (Entails.of_eq (both_rings fun x : Bool × Fin 4 × Fin 2 => slotAny (F := F) x.1 c x.2.1 x.2.2).symm).trans ?_
  rw [slots_inn, both_rings (fun s : Hop => slotAny (F := F) s.1 c s.2.1.succ s.2.2)]
  exact .rfl

/-- The slots its own hops have sent and the last ones put together. -/
theorem comms_join (c : Dev nD) :
    iprop((bigSep Finset.univ fun s : Hop => slotAny (F := F) s.1 c s.2.1.castSucc s.2.2) ∗ bigSep Finset.univ fun t : Lane => slotAny (F := F) t.1 c 3 t.2)
      ⊢ (iprop((∃ X, owns (c : Thread nD τ) (comm false) fullShare X) ∗ ∃ X, owns (c : Thread nD τ) (comm true) fullShare X) : sProp 𝕄) := by
  refine BIBase.Entails.trans ?_ (BIClass.sep_mono (slots_join false c) (slots_join true c))
  refine (Entails.of_eq (slots_out fun x : Bool × Fin 4 × Fin 2 => slotAny (F := F) x.1 c x.2.1 x.2.2).symm).trans ?_
  rw [both_rings (fun x : Bool × Fin 4 × Fin 2 => slotAny (F := F) x.1 c x.2.1 x.2.2)]

end Cert.RingKernelIdeal

end

end
-- ==== Proof.KernelIdeal.Body.lean ====
/-
# The body of one device

From its share of the launch to its block of the result, with all its semaphores back at zero.
-/
module

public import proofs.«01_k».proof.Proof.KernelIdeal.Parts

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAll ℕ

variable (m : (ℓ : Loc nD τ sig) → Buf (Elt F) ℓ) (K : Dev nD × Option Key → ℕ) (c : Dev nD)

/-- Both rings' buffers, holding anything. -/
def comms : sProp 𝕄 :=
  iprop((∃ X, owns (c : Thread nD τ) (comm false) fullShare X) ∗ ∃ X, owns (c : Thread nD τ) (comm true) fullShare X)

/-- The places of a device at its transfer semaphores, each at round `r`. -/
def places (r : ℕ) : sProp 𝕄 :=
  iprop((bigSep Finset.univ fun s : Hop => place (F := F) c s.out r) ∗ bigSep Finset.univ fun s : Hop => place (F := F) c s.inn r)

/-- The places at the transfer semaphores no hop uses. -/
def idlePlaces : sProp 𝕄 := bigSep Finset.univ fun x : Bool × Bool × Fin 2 => place (F := F) c (idleKey x) 0

/-- What a device starts from: the tickets, its places and credits, and the buffers. -/
def bodyIn : sProp 𝕄 :=
  iprop((toGreet (F := F) c ∗ (bigSep Finset.univ fun s : Hop => ticket (F := F) c s) ∗ places (F := F) c 0
      ∗ (bigSep Finset.univ fun s : Hop => cred (tallyAt (xferCell c s.inn) () N)) ∗ idlePlaces (F := F) c)
    ∗ comms (F := F) c ∗ argHeld m c ∗ (∃ X, owns (c : Thread nD τ) oRef fullShare X) ∗ owing (F := F) c (owed0 c))

/-- Every semaphore of a device at zero. -/
def quiet : sProp 𝕄 := iprop((bigSep Finset.univ fun k : Key => semVal (xferCell c k) 0) ∗ semVal (barCell c) 0)

/-- What it ends with: its block of the result, nothing owed, and the semaphores at zero. -/
def bodyOut : sProp 𝕄 :=
  iprop(argHeld m c ∗ owns (c : Thread nD τ) oRef fullShare (result m c) ∗ owing (F := F) c 0 ∗ comms (F := F) c ∗ quiet (F := F) c)

/-- The start: after the handshake every hop is in its first stage. -/
theorem enter :
    iprop((bigSep Finset.univ fun s : Hop => ticket (F := F) c s) ∗ (lent (F := F) false (nb false c) ∗ lent (F := F) true (nb true c))
        ∗ places (F := F) c 0 ∗ (bigSep Finset.univ fun s : Hop => cred (tallyAt (xferCell c s.inn) () N)))
      ⊢ bigSep Finset.univ fun s => hopAt m c s .idle := by
  unfold places lent
  iintro ⟨Ht, Hl, ⟨Ho, Hi⟩, Hc⟩
  ihave Hl' := (Entails.of_eq (both_rings fun s : Hop => slotAny (F := F) s.1 (nb s.1 c) s.2.1.succ s.2.2).symm) $$ Hl
  iapply (Entails.of_eq (show (bigSep Finset.univ fun s => hopAt m c s .idle)
    = iprop((bigSep Finset.univ fun s : Hop => ticket (F := F) c s) ∗ (bigSep Finset.univ fun s : Hop => slotAny (F := F) s.1 (nb s.1 c) s.2.1.succ s.2.2)
      ∗ (bigSep Finset.univ fun s : Hop => place (F := F) c s.out 0) ∗ (bigSep Finset.univ fun s : Hop => place (F := F) c s.inn 0)
      ∗ (bigSep Finset.univ fun s : Hop => cred (tallyAt (xferCell c s.inn) () N))) by
    rw [← bigSep_sep', ← bigSep_sep', ← bigSep_sep', ← bigSep_sep']; rfl).symm)
  isplitl [Ht]; · iexact Ht
  isplitl [Hl']; · iexact Hl'
  isplitl [Ho]; · iexact Ho
  isplitl [Hi]; · iexact Hi
  iexact Hc

/-- Member by member. -/
theorem each {I : Type} [Fintype I] {Φ Ψ : I → sProp 𝕄} (h : ∀ i, Φ i ⊢ Ψ i) : bigSep Finset.univ Φ ⊢ bigSep Finset.univ Ψ :=
  bigSep_mono fun i _ => h i

theorem slotAt_any (σ : Bool) (h : Fin 4) (j : Fin 2) (Y : Vec F S1x512x256 .bf16) : slotAt σ c h j Y ⊢ slotAny (F := F) σ c h j := by
  iintro H
  unfold slotAny
  iexists Y
  iexact H

/-- The end: what the hops and the lanes leave. -/
theorem leave :
    iprop((bigSep Finset.univ fun s => hopAt m c s .done) ∗ bigSep Finset.univ fun t => laneAt m c t .written)
      ⊢ iprop(comms (F := F) c ∗ owns (c : Thread nD τ) oRef fullShare (result m c) ∗ places (F := F) c 1) := by
  rw [show (bigSep Finset.univ fun s => hopAt m c s .done)
    = iprop((bigSep Finset.univ fun s : Hop => slotAt s.1 c s.2.1.castSucc s.2.2 (partial_ m s.1 s.2.1.val s.2.2 c))
      ∗ (bigSep Finset.univ fun s : Hop => place (F := F) c s.out 1) ∗ (bigSep Finset.univ fun s : Hop => place (F := F) c s.inn 1)) by
    rw [← bigSep_sep', ← bigSep_sep']; rfl,
    show (bigSep Finset.univ fun t => laneAt m c t .written)
    = iprop((bigSep Finset.univ fun t : Lane => slotAt t.1 c 3 t.2 (partial_ m t.1 2 t.2 (nb (!t.1) c)))
      ∗ (bigSep Finset.univ fun t : Lane => quarterAt c t.1 t.2 (quarter m t.1 t.2 c))) by
    rw [← bigSep_sep']; rfl]
  iintro ⟨⟨Hs, Hp⟩, Hs', Hq⟩
  isplitl [Hs Hs']
  · unfold comms
    iapply (comms_join c)
    isplitl [Hs]
    · iapply (each fun s : Hop => slotAt_any c s.1 s.2.1.castSucc s.2.2 (partial_ m s.1 s.2.1.val s.2.2 c))
      iexact Hs
    · iapply (each fun t : Lane => slotAt_any c t.1 3 t.2 (partial_ m t.1 2 t.2 (nb (!t.1) c)))
      iexact Hs'
  isplitl [Hq]
  · iapply (quarters_join m c); iexact Hq
  unfold places
  iexact Hp

/-- A transfer semaphore past its last round is at zero for good. -/
theorem close_key (k : Key) (r : ℕ) (hr : ∀ r', r ≤ r' → (sched m).duties (xferCell c k) r' = ∅) :
    iprop(known m K ∗ place (F := F) c k r) ⊢ |={Set.univ}=> semVal (xferCell c k) 0 := by
  iintro ⟨#HK, Hp⟩
  ihave HK' := (known_xfer m K c k) $$ HK
  icases HK' with ⟨#HI, -, -⟩
  iapply (Rounds.cell_close ERing (sched m) (Set.mem_univ _) (hu := fun h => h) (R := r) hr)
  unfold place
  isplitr; · iexact HI
  iexact Hp

theorem close_bar : iprop(known m K ∗ atPos ERing (barCell c) 1 ∅ 0) ⊢ |={Set.univ}=> semVal (barCell c) 0 := by
  iintro ⟨#HK, Hp⟩
  ihave HK' := (known_bar m K c) $$ HK
  icases HK' with ⟨#HI, -, -⟩
  iapply (Rounds.cell_close ERing (sched m) (Set.mem_univ _) (hu := fun h => h) (R := 1) (duties_later m (barCell c)))
  isplitr; · iexact HI
  iexact Hp

/-- All the semaphores of a device closed. -/
theorem close_all :
    iprop(known m K ∗ places (F := F) c 1 ∗ idlePlaces (F := F) c ∗ atPos ERing (barCell c) 1 ∅ 0) ⊢ |={Set.univ}=> quiet (F := F) c := by
  iintro ⟨#HK, Hp, Hi, Hb⟩
  unfold places idlePlaces quiet
  icases Hp with ⟨Ho, Hn⟩
  imod (close_bar m K c) $$ [Hb] with Hb
  · isplitr; · iexact HK
    iexact Hb
  imod ((bigSep_with_persistent (R := known m K) fun (s : Hop) _ => close_key m K c s.out 1 (duties_later m _)).trans (bigSep_fupd _ _)) $$ [Ho] with Ho
  · isplitr; · iexact HK
    iexact Ho
  imod ((bigSep_with_persistent (R := known m K) fun (s : Hop) _ => close_key m K c s.inn 1 (duties_later m _)).trans (bigSep_fupd _ _)) $$ [Hn] with Hn
  · isplitr; · iexact HK
    iexact Hn
  imod ((bigSep_with_persistent (R := known m K) fun (x : Bool × Bool × Fin 2) _ =>
    close_key m K c (idleKey x) 0 (fun r _ => duties_idle m c (idleKey_live x) r)).trans (bigSep_fupd _ _)) $$ [Hi] with Hi
  · isplitr; · iexact HK
    iexact Hi
  imodintro
  isplitl [Ho Hn Hi]
  · rw [keys_parts]
    isplitl [Ho Hn]
    · isplitl [Ho]; · iexact Ho
      iexact Hn
    · iexact Hi
  iexact Hb

/-- The body of device `c`. -/
theorem body_runs : iprop(known m K ∗ bodyIn m c) ⊢ runs c printed fun _ => bodyOut m c := by
  obtain ⟨⟨t1, t2⟩, -⟩ := targets c
  unfold bodyIn
  iintro ⟨#HK, ⟨Hg, Ht, Hp, Hc, Hi⟩, Hs, Hx, Hq, Ho⟩
  unfold comms
  ihave Hs' := (comms_split c) $$ Hs
  icases Hs' with ⟨⟨Hl, Hl'⟩, Hf⟩
  ihave Hq' := (quarters_split c) $$ Hq
  unfold runs printed
  rw [wp_deviceId]
  iapply (greet_step (m := m) (K := K) (c := c) (Fin.ext t1) (Fin.ext t2)
    (R := iprop((bigSep Finset.univ fun s : Hop => ticket (F := F) c s) ∗ places (F := F) c 0
      ∗ (bigSep Finset.univ fun s : Hop => cred (tallyAt (xferCell c s.inn) () N)) ∗ idlePlaces (F := F) c
      ∗ (bigSep Finset.univ fun t : Lane => slotAny (F := F) t.1 c 0 t.2) ∗ argHeld m c
      ∗ bigSep Finset.univ fun t : Lane => iprop(∃ Y, quarterAt (F := F) c t.1 t.2 Y)))
    (by
      iintro ⟨#HK, Hb, Hl, Hl', Ho, Ht, Hp, Hc, Hi, Hf, Hx, Hq⟩
      unfold runs
      iapply (wp_fupd frame (wpE (defs₀ (F := F)) 𝒱₀ (c : Thread nD τ) none))
      iapply (wp_wand_r frame (wpE (defs₀ (F := F)) 𝒱₀ (c : Thread nD τ) none))
      isplitr [Hb Hi]
      · iapply (walk m K c)
        isplitr; · iexact HK
        unfold world
        isplitl [Hx]; · iexact Hx
        isplitl [Ho]; · iexact Ho
        isplitl [Ht Hl Hl' Hp Hc]
        · iapply (enter m c)
          isplitl [Ht]; · iexact Ht
          isplitl [Hl Hl']
          · isplitl [Hl]; · iexact Hl
            iexact Hl'
          isplitl [Hp]; · iexact Hp
          iexact Hc
        · iapply (Entails.of_eq (show (bigSep Finset.univ fun t => laneAt m c t .fresh)
            = iprop((bigSep Finset.univ fun t : Lane => slotAny (F := F) t.1 c 0 t.2)
              ∗ bigSep Finset.univ fun t : Lane => iprop(∃ Y, quarterAt (F := F) c t.1 t.2 Y)) by rw [← bigSep_sep']; rfl).symm)
          isplitl [Hf]; · iexact Hf
          iexact Hq
      · iintro %_ H
        unfold world
        icases H with ⟨Hx, Ho, Ha, Hq⟩
        ihave H := (leave m c) $$ [Ha Hq]
        · isplitl [Ha]; · iexact Ha
          iexact Hq
        icases H with ⟨Hs, Hr, Hp⟩
        imod (close_all m K c) $$ [Hp Hi Hb] with Hz
        · isplitr; · iexact HK
          isplitl [Hp]; · iexact Hp
          isplitl [Hi]; · iexact Hi
          iexact Hb
        imodintro
        unfold bodyOut
        isplitl [Hx]; · iexact Hx
        isplitl [Hr]; · iexact Hr
        isplitl [Ho]; · iexact Ho
        isplitl [Hs]; · iexact Hs
        iexact Hz))
  isplitr; · iexact HK
  isplitl [Hg]; · iexact Hg
  isplitl [Hl]; · iexact Hl
  isplitl [Hl']; · iexact Hl'
  isplitl [Ho]; · iexact Ho
  isplitl [Ht]; · iexact Ht
  isplitl [Hp]; · iexact Hp
  isplitl [Hc]; · iexact Hc
  isplitl [Hi]; · iexact Hi
  isplitl [Hf]; · iexact Hf
  isplitl [Hx]; · iexact Hx
  iexact Hq'

end Cert.RingKernelIdeal

end

end
-- ==== Proof.KernelIdeal.Deal.lean ====
/-
# What the launch deals

The cells and duties of the rings at launch, dealt out so that each device holds the tickets of the hops it makes; and
the credit for what the devices owe each other.
-/
module

public import proofs.«01_k».proof.Proof.KernelIdeal.Body

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAll ℕ

variable (m : (ℓ : Loc nD τ sig) → Buf (Elt F) ℓ)

/-! ## Cells and duties -/

theorem cellAt_injective : Function.Injective cellAt := by
  rintro ⟨c, k⟩ ⟨c', k'⟩ h
  have hc : c = c' := by
    have h1 := congrArg (fun g : GSem nD τ sig => g.1.1) h
    cases k <;> cases k' <;> exact h1
  subst hc
  have hs := congrArg Prod.snd h
  cases k with
  | none => cases k' with
    | none => rfl
    | some k' => exact absurd hs (by intro h; cases h)
  | some k => cases k' with
    | none => exact absurd hs (by intro h; cases h)
    | some k' => rw [dsem_injective (SemLoc.dma.inj hs)]

def ringCells : Finset (GSem nD τ sig) := Finset.univ.map ⟨cellAt, cellAt_injective⟩

/-- The duties at a device's own cells: two at the barrier, one at each departure and at each arrival. -/
abbrev Duty : Type := Bool ⊕ Hop ⊕ Hop

/-- Where a duty lies: its cell among the device's, and its name. -/
def dutyAt : Duty → Option Key × Bool
  | .inl d => (none, d)
  | .inr (.inl s) => (some s.out, false)
  | .inr (.inr s) => (some s.inn, false)

theorem dutyAt_injective : Function.Injective dutyAt := by decide +kernel

def tokOf (x : Dev nD × Duty) : GSem nD τ sig × ℕ × Bool := (cellAt (x.1, (dutyAt x.2).1), 0, (dutyAt x.2).2)

theorem tokOf_injective : Function.Injective tokOf := by
  rintro ⟨c, t⟩ ⟨c', t'⟩ h
  have hx := cellAt_injective (congrArg Prod.fst h)
  have hc : c = c' := congrArg Prod.fst hx
  have ht : t = t' := dutyAt_injective (Prod.ext (congrArg Prod.snd hx) (congrArg (fun x : GSem nD τ sig × ℕ × Bool => x.2.2) h))
  rw [hc, ht]

def ringToks : Finset (GSem nD τ sig × ℕ × Bool) := Finset.univ.map ⟨tokOf, tokOf_injective⟩

def u₀ : UAll := (initOf (Pipeline.cells cfgs cellOf_inj) (Pipeline.launchToks cfgs cellOf_inj), initOf ringCells ringToks)

/-- The tokens of the duties at device `c`'s own cells. -/
def ownToks (c : Dev nD) : sProp 𝕄 :=
  iprop((dutyTok ERing (barCell c) 0 false ∗ dutyTok ERing (barCell c) 0 true)
    ∗ (bigSep Finset.univ fun s : Hop => dutyTok ERing (xferCell c s.out) 0 false)
    ∗ bigSep Finset.univ fun s : Hop => dutyTok ERing (xferCell c s.inn) 0 false)

/-- The tokens of the duties device `c` pays. -/
def payToks (c : Dev nD) : sProp 𝕄 :=
  iprop((dutyTok ERing (barCell (nb true c)) 0 false ∗ dutyTok ERing (barCell (nb false c)) 0 true)
    ∗ bigSep Finset.univ fun s : Hop => ticket (F := F) c s)

theorem two_duties (Φ : Bool → sProp 𝕄) : bigSep Finset.univ Φ = iprop(Φ false ∗ Φ true) := by
  rw [bigSep_univ_eq_bigSepL [false, true] (by decide) (by decide), bigSepL_cons_cons, bigSepL_singleton]; rfl

/-- What the launch makes for device `c`: its cells' round states, its places and marks, and the tokens at its cells. -/
def dealt (c : Dev nD) : sProp 𝕄 :=
  iprop((bigSep Finset.univ fun k => roundState ERing (sched m) (cellAt (c, k)) 0)
    ∗ (bigSep Finset.univ fun k => iprop(atPos ERing (cellAt (c, k)) 0 ∅ 0 ∗ reached ERing (cellAt (c, k)) 0)) ∗ ownToks (F := F) c)

theorem deal : BI.own (ERing (initOf ringCells ringToks)) ⊢ (|==> bigSep Finset.univ (dealt m) : sProp 𝕄) := by
  have hX (Φ : GSem nD τ sig → sProp 𝕄) :
      bigSep ringCells Φ = bigSep Finset.univ fun c : Dev nD => bigSep Finset.univ fun k => Φ (cellAt (c, k)) := by
    unfold ringCells; rw [bigSep_map, bigSep_univ_prod]; rfl
  have hT : bigSep ringToks (fun x => (dutyTok ERing x.1 x.2.1 x.2.2 : sProp 𝕄)) = bigSep Finset.univ fun c : Dev nD => ownToks c := by
    unfold ringToks; rw [bigSep_map, bigSep_univ_prod]
    exact bigSep_congr fun c _ => by unfold ownToks; rw [bigSep_univ_sum, bigSep_univ_sum, two_duties]; rfl
  iintro HX
  imod (Rounds.fund ERing (sched m) ringCells ringToks) $$ HX with ⟨Hst, Hr, Hat, Htok⟩
  imodintro
  ihave Hst' := (Entails.of_eq (hX fun g => roundState ERing (sched m) g 0)) $$ Hst
  ihave Hat' := (Entails.of_eq (hX fun g => atPos ERing g 0 ∅ 0)) $$ Hat
  ihave Hr' := (Entails.of_eq (hX fun g => reached ERing g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- The tokens go round the rings, each to the device that pays the duty. -/
theorem toks_around : (bigSep Finset.univ fun c : Dev nD => ownToks (F := F) c) ⊢ bigSep Finset.univ fun c : Dev nD => payToks (F := F) c := by
  have hb (σ d : Bool) : (bigSep Finset.univ fun c : Dev nD => (dutyTok ERing (barCell c) 0 d : sProp 𝕄))
      = bigSep Finset.univ fun c : Dev nD => dutyTok ERing (barCell (nb σ c)) 0 d :=
    bigSep_univ_equiv (nbEquiv σ) fun c : Dev nD => (dutyTok ERing (barCell c) 0 d : sProp 𝕄)
  have hi : (bigSep Finset.univ fun c : Dev nD => bigSep Finset.univ fun s : Hop => (dutyTok ERing (xferCell c s.inn) 0 false : sProp 𝕄))
      = bigSep Finset.univ fun c : Dev nD => bigSep Finset.univ fun s : Hop => dutyTok ERing (xferCell (nb s.1 c) s.inn) 0 false := by
    rw [bigSep_univ_comm, bigSep_univ_comm (fun (c : Dev nD) (s : Hop) => (dutyTok ERing (xferCell (nb s.1 c) s.inn) 0 false : sProp 𝕄))]
    exact bigSep_congr fun s _ => bigSep_univ_equiv (nbEquiv s.1) fun c : Dev nD => (dutyTok ERing (xferCell c s.inn) 0 false : sProp 𝕄)
  unfold ownToks payToks ticket
  simp only [bigSep_sep']
  rw [hb true false, hb false true, hi]

/-! ## The invariants -/

/-- What holds of all cells once their invariants are there. -/
def records (K : Dev nD × Option Key → ℕ) : sProp 𝕄 :=
  iprop((bigSep Finset.univ fun x => cellInv ERing (sched m) (K x) (cellAt x)) ∗ bigSep Finset.univ fun x => reached ERing (cellAt x) 0)

instance records_persistent (K : Dev nD × Option Key → ℕ) : BI.Persistent (records m K) := by unfold records; infer_instance

/-- A device's own part: its places, and the tokens of the duties it pays. -/
def share (c : Dev nD) : sProp 𝕄 :=
  iprop((bigSep Finset.univ fun k => atPos ERing (cellAt (c, k)) 0 ∅ 0) ∗ payToks (F := F) c)

/-- What the allocation makes of a device's part of the launch. -/
def granted (c : Dev nD) : sProp 𝕄 := iprop(∃ K, records m K ∗ share (F := F) c)

/-- A family over a device's cells: the barrier's and the transfer semaphores'. -/
theorem own_cells (Φ : Option Key → sProp 𝕄) : bigSep Finset.univ Φ = iprop((bigSep Finset.univ fun k => Φ (some k)) ∗ Φ none) := by
  rw [bigSep_univ_equiv (Equiv.optionEquivSumPUnit.{0} Key).symm, bigSep_univ_sum]
  refine congrArg₂ BI.sep rfl ?_
  rw [bigSep_univ_of_subsingleton PUnit.unit]
  rfl

/-- The kernel's own semaphores are the transfer semaphores, and the barrier's is the only one that outlives it. -/
abbrev osem (k : Key) : SemLoc sig := .dma (dsem k)

theorem ownSemFacts : Pipeline.OwnSemFacts cfg0.spec osem := by decide +kernel

theorem unscoped_eq (c : Dev nD) : (unscopedSems0 c : sProp 𝕄) = semVal (barCell c) 0 := by
  unfold unscopedSems0; rw [bigSep_eq_bigSepL_of_eq [SemLoc.reg barrier0] (by decide) (by decide)]; rfl

theorem quiet_eq (c : Dev nD) :
    iprop(Pipeline.ownSems0 (Ix := Unit) (Name := ℕ) (U := UAll) (Lvl := ℕ) (Val := Elt F) (τ := τ) osem c ∗ unscopedSems0 c) = quiet (F := F) c := by
  rw [unscoped_eq]; rfl

theorem alloc (c : Dev nD) :
    iprop(Pipeline.ownSems0 (Ix := Unit) (Name := ℕ) (U := UAll) (Lvl := ℕ) (Val := Elt F) (τ := τ) osem c ∗ unscopedSems0 c ∗ dealt m c)
      ⊢ |={Set.univ}=> iprop((bigSep Finset.univ fun k => iprop(∃ κ : ℕ, cellInv ERing (sched m) κ (cellAt (c, k))))
          ∗ (bigSep Finset.univ fun k => iprop(atPos ERing (cellAt (c, k)) 0 ∅ 0 ∗ reached ERing (cellAt (c, k)) 0)) ∗ ownToks (F := F) c) := by
  unfold dealt
  iintro ⟨Hos, Hus, Hst, Hat, Htok⟩
  ihave Hv := (Entails.of_eq ((quiet_eq (F := F) c).trans (own_cells fun k => (semVal (cellAt (c, k)) 0 : sProp 𝕄)).symm)) $$ [Hos Hus]
  · isplitl [Hos] <;> iassumption
  imod (show iprop((bigSep Finset.univ fun k => semVal (cellAt (c, k)) 0) ∗ bigSep Finset.univ fun k => roundState ERing (sched m) (cellAt (c, k)) 0)
      ⊢ (|={Set.univ}=> bigSep Finset.univ fun k => iprop(∃ κ : ℕ, cellInv ERing (sched m) κ (cellAt (c, k))) : sProp 𝕄) from by
        rw [← bigSep_sep']
        exact (bigSep_mono fun k _ => (Rounds.body_intro ERing (sched m) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k => iprop(∃ κ : ℕ, cellInv ERing (sched m) κ (cellAt (c, k))))
          ∗ (bigSep Finset.univ fun k => iprop(atPos ERing (cellAt (c, k)) 0 ∅ 0 ∗ reached ERing (cellAt (c, k)) 0)) ∗ ownToks (F := F) c) : sProp 𝕄)
      ⊢ bigSep Finset.univ (granted m) := by
  simp only [bigSep_sep']
  rw [← bigSep_univ_prod (fun x : Dev nD × Option Key => iprop(∃ κ : ℕ, cellInv ERing (sched m) κ (cellAt x))),
    ← bigSep_univ_prod (fun x : Dev nD × Option Key => (reached ERing (cellAt x) 0 : sProp 𝕄))]
  iintro ⟨HI, ⟨Hat, #HR⟩, Htok⟩
  ihave HK := (bigSep_exists_pi Finset.univ (fun (x : Dev nD × Option Key) (κ : ℕ) => (cellInv ERing (sched m) κ (cellAt x) : sProp 𝕄))) $$ HI
  icases HK with ⟨%K, #HI⟩
  ihave Htk := (toks_around (F := F)) $$ Htok
  iapply (bigSep_with_persistent (R := records m K) (Φ := share) fun c _ => (by
    iintro ⟨#HR, Hs⟩
    unfold granted
    iexists K
    isplitr; · iexact HR
    iexact Hs : iprop(records m K ∗ share (F := F) c) ⊢ granted m c))
  isplitr
  · unfold records; isplitl; · iexact HI
    iexact HR
  · unfold share
    rw [bigSep_sep']
    isplitl [Hat]; · iexact Hat
    iexact Htk

/-- The allocation, for all devices at once. -/
theorem glob :
    (bigSep Finset.univ fun c => iprop(Pipeline.ownSems0 (Ix := Unit) (Name := ℕ) (U := UAll) (Lvl := ℕ) (Val := Elt F) (τ := τ) osem c
        ∗ unscopedSems0 c ∗ dealt m c) : sProp 𝕄)
      ⊢ |={Set.univ}=> bigSep Finset.univ (granted m) :=
  ((bigSep_mono fun c _ => alloc m c).trans (bigSep_fupd _ _)).trans (BI.fupd_mono (regroup m))

/-! ## Credit -/

theorem xfer_eq_iff {a b : Dev nD} {k k' : Key} : xferCell a k = xferCell b k' ↔ a = b ∧ k = k' :=
  ⟨fun h => by
    have h' := cellAt_injective (show cellAt (a, some k) = cellAt (b, some k') from h)
    exact ⟨congrArg Prod.fst h', Option.some.inj (congrArg Prod.snd h')⟩, fun h => by rw [h.1, h.2]⟩

theorem bar_eq_iff {a b : Dev nD} : barCell a = barCell b ↔ a = b :=
  ⟨fun h => congrArg (fun g : GSem nD τ sig => g.1.1) h, fun h => by rw [h]⟩

theorem xfer_ne_bar (a b : Dev nD) (k : Key) : xferCell a k ≠ barCell b := fun h => by cases congrArg Prod.snd h

theorem inn_injective : Function.Injective Hop.inn := by decide +kernel

theorem nb_eq_iff (σ : Bool) (d c : Dev nD) : c = nb σ d ↔ d = nb (!σ) c :=
  ⟨fun h => by rw [h, nb_not], fun h => by rw [h, nb_of_not]⟩

/-- Of the hops `l`, device `d` owes at an arrival of device `c` one copy for each time that hop is there. -/
theorem debts_inn (d c : Dev nD) (s : Hop) :
    ∀ l : List Hop, debts d l (xferCell c s.inn) () = if d = nb (!s.1) c then N * l.count s else 0
  | [] => by rw [List.count_nil, Nat.mul_zero, ite_self]; rfl
  | s' :: l => by
    rw [show debts d (s' :: l) = debts d l + tallyAt (xferCell (nb s'.1 d) s'.inn) () N from rfl, Pi.add_apply, Finsupp.add_apply, debts_inn d c s l, tallyAt_apply]
    by_cases hs : s' = s
    · subst hs
      rw [List.count_cons_self]
      by_cases hd : d = nb (!s'.1) c
      · rw [if_pos hd, if_pos hd, if_pos ⟨by rw [xfer_eq_iff]; exact ⟨(nb_eq_iff _ _ _).mpr hd, rfl⟩, rfl⟩, Nat.mul_add, Nat.mul_one]
      · rw [if_neg hd, if_neg hd, if_neg fun h => hd ((nb_eq_iff _ _ _).mp (xfer_eq_iff.mp h.1).1)]
    · rw [List.count_cons_of_ne (by simpa using hs), if_neg (c := xferCell c s.inn = _ ∧ _) fun h => hs (inn_injective (xfer_eq_iff.mp h.1).2).symm, Nat.add_zero]

theorem debts_bar (d c : Dev nD) : ∀ l : List Hop, debts d l (barCell c) () = 0
  | [] => rfl
  | s :: l => by
    rw [show debts d (s :: l) = debts d l + tallyAt (xferCell (nb s.1 d) s.inn) () N from rfl, Pi.add_apply, Finsupp.add_apply, debts_bar d c l, tallyAt_apply,
      if_neg fun h => xfer_ne_bar _ _ _ h.1.symm]

theorem hops_count : ∀ s : Hop, hops.count s = 1 := by decide +kernel

theorem owed_inn (d c : Dev nD) (s : Hop) : owed0 d (xferCell c s.inn) () = if d = nb (!s.1) c then N else 0 := by
  unfold owed0 owed1
  rw [Pi.add_apply, Finsupp.add_apply, Pi.add_apply, Finsupp.add_apply, debts_inn, hops_count, Nat.mul_one, tallyAt_apply, tallyAt_apply,
    if_neg (c := _ = barCell _ ∧ _) fun h => xfer_ne_bar _ _ _ h.1, if_neg (c := _ = barCell _ ∧ _) fun h => xfer_ne_bar _ _ _ h.1,
    Nat.add_zero]

theorem owed_bar (d c : Dev nD) : owed0 d (barCell c) () = (if d = nb true c then 1 else 0) + if d = nb false c then 1 else 0 := by
  unfold owed0 owed1
  rw [Pi.add_apply, Finsupp.add_apply, Pi.add_apply, Finsupp.add_apply, debts_bar, tallyAt_apply, tallyAt_apply, Nat.zero_add]
  have hif (σ : Bool) : (if barCell c = barCell (nb σ d) ∧ () = () then 1 else 0) = if d = nb (!σ) c then 1 else 0 :=
    if_congr ((and_iff_left rfl).trans (bar_eq_iff.trans (nb_eq_iff σ d c))) rfl rfl
  rw [hif false, hif true]
  rfl

theorem launch_inn (c : Dev nD) (s : Hop) :
    tallyOn (xferCell c s.inn) (launchCredit (Pipeline.owing owed0) 0 (xferCell c s.inn)) = (tallyAt (xferCell c s.inn) () N : CellTallies nD τ sig Unit) := by
  unfold tallyAt; refine congrArg _ (Finsupp.ext fun u => ?_); cases u
  rw [Pipeline.launchCredit_owing, Finsupp.single_eq_same, Finset.sum_congr rfl fun d _ => owed_inn d c s, Finset.sum_ite_eq' Finset.univ (nb (!s.1) c) fun _ => N,
    if_pos (Finset.mem_univ _)]

theorem launch_bar (c : Dev nD) :
    tallyOn (barCell c) (launchCredit (Pipeline.owing owed0) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb true c) fun _ => 1, Finset.sum_ite_eq' Finset.univ (nb false c) fun _ => 1, if_pos (Finset.mem_univ _), if_pos (Finset.mem_univ _)]

/-- The launch's credit holds what the device awaits: two units at its barrier and a copy's at each arrival. -/
theorem creds (c : Dev nD) :
    (Pipeline.launchCred owed0 c : sProp 𝕄)
      ⊢ iprop(cred (tallyAt (barCell c) () 2) ∗ bigSep Finset.univ fun s : Hop => cred (tallyAt (xferCell c s.inn) () N)) := by
  unfold Pipeline.launchCred
  rw [bigSep_univ_at _ (SemLoc.reg barrier0), launch_bar]
  refine sep_mono_right ?_
  rw [bigSep_congr (s := Finset.univ) fun (s : Hop) _ => congrArg cred (launch_inn c s).symm]
  refine (bigSep_subset (t := Finset.univ.map ⟨fun s : Hop => osem s.inn, fun a b h => inn_injective (dsem_injective (SemLoc.dma.inj h))⟩) fun sm h => ?_).trans
    (Entails.of_eq (bigSep_map _))
  obtain ⟨s, -, rfl⟩ := Finset.mem_map.mp h
  exact Finset.mem_erase.mpr ⟨(by intro h; cases h), Finset.mem_univ _⟩

end Cert.RingKernelIdeal

end

end
-- ==== Proof.KernelIdeal.Run.lean ====
/-
# The run

The launch of the kernel on the four devices: it terminates, with the argument as it was, the devices' blocks of the
result computed and every semaphore at zero.
-/
module

public import proofs.«01_k».proof.Proof.KernelIdeal.Deal
public import Idealize.ShloMosaic.Lib.Pipeline.CollectiveSegs

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAll ℕ

open Idealize.ShloMosaic.Pipeline (Dat BodyObligation)

variable (m : (ℓ : Loc nD τ sig) → Buf (Elt F) ℓ) (ρ : Dev nD → PrngReg)

/-! ## The point -/

/-- What device `c` holds before the body. -/
def start (c : Dev nD) : sProp 𝕄 :=
  iprop(granted m c ∗ (cred (tallyAt (barCell c) () 2) ∗ bigSep Finset.univ fun s : Hop => cred (tallyAt (xferCell c s.inn) () N)) ∗ levAts idx level)

def before (c : Dev nD) : sProp 𝕄 := iprop(start m c ∗ comms (F := F) c)
def after (c : Dev nD) : sProp 𝕄 := iprop(comms (F := F) c ∗ quiet (F := F) c)

def dats (_ : Fin 1) (c : Dev nD) : Dat τ (Elt F) Unit ℕ UAll ℕ cfg0 c where
  A w := m ((cfg0.win w).arr.view.loc (c : Thread nD τ))
  after w _ := match w with
    | ⟨0, _⟩ => arg m c
    | ⟨1, _⟩ => result m c
  Φ t := match t with
    | ⟨0, _⟩ => before m c
    | ⟨_ + 1, _⟩ => after c
  q _ := fullShare
  owed t := match t with
    | ⟨0, _⟩ => owed0 c
    | ⟨_ + 1, _⟩ => 0

theorem share_eq (c : Dev nD) (w : Fin cfg0.W) : (dats m 0 c).share w = fullShare := by unfold Dat.share; split <;> rfl

/-- The launch's part of a device is what its body takes. -/
theorem body_ready (c : Dev nD) :
    iprop(before m c ∗ argHeld m c ∗ (∃ X, owns (c : Thread nD τ) oRef fullShare X) ∗ owing (F := F) c (owed0 c)) ⊢ iprop(∃ K, known m K ∗ bodyIn m c) := by
  unfold before start granted
  iintro ⟨⟨⟨⟨%K, #HR, Hs⟩, ⟨Hb, Hi⟩, #HL⟩, Hc⟩, Hx, Hq, Ho⟩
  iexists K
  unfold share payToks records
  icases HR with ⟨#HI, #HM⟩
  icases Hs with ⟨Hp, ⟨Ht, Ht'⟩, Htk⟩
  ihave Hp' := (Entails.of_eq (own_cells fun k => (atPos ERing (cellAt (c, k)) 0 ∅ 0 : sProp 𝕄))) $$ Hp
  icases Hp' with ⟨Hk, Hbar⟩
  ihave Hk' := (Entails.of_eq (keys_parts fun k => place (F := F) c k 0)) $$ [Hk]
  · unfold place; iexact Hk
  icases Hk' with ⟨Hoi, Hidle⟩
  isplitr
  · unfold known
    isplitr; · iexact HI
    isplitr; · iexact HM
    iexact HL
  unfold bodyIn toGreet places idlePlaces
  isplitl [Hb Hi Ht Ht' Htk Hbar Hoi Hidle]
  · isplitl [Hb Ht Ht' Hbar]
    · isplitl [Ht]; · iexact Ht
      isplitl [Ht']; · iexact Ht'
      isplitl [Hbar]; · iexact Hbar
      iexact Hb
    isplitl [Htk]; · iexact Htk
    isplitl [Hoi]; · iexact Hoi
    isplitl [Hi]; · iexact Hi
    iexact Hidle
  isplitl [Hc]; · iexact Hc
  isplitl [Hx]; · iexact Hx
  isplitl [Hq]; · iexact Hq
  iexact Ho

theorem fetch_arg : (cfg0.win (0 : Fin 2)).fetch t0_0 = true := by rfl

def pointPre (c : Dev nD) : sProp 𝕄 :=
  iprop(before m c ∗ (dats m 0 c).owesAt () (t0_0 : Fin cfg0.N).castSucc
    ∗ (∃ d, owns (c : Thread nD τ) xRef fullShare ((dats m 0 c).before (0 : Fin 2) t0_0 d))
    ∗ ∃ d, owns (c : Thread nD τ) oRef fullShare ((dats m 0 c).before (1 : Fin 2) t0_0 d))

def pointPost (c : Dev nD) : sProp 𝕄 :=
  iprop(after (F := F) c ∗ (dats m 0 c).owesAt () (t0_0 : Fin cfg0.N).succ ∗ owns (c : Thread nD τ) xRef fullShare (arg m c)
    ∗ owns (c : Thread nD τ) oRef fullShare (result m c))

theorem point (c : Dev nD) : pointPre m c ⊢ runs (F := F) c printed fun _ => pointPost m c := by
  unfold pointPre
  iintro ⟨Hb, Ho, ⟨%d, Hx⟩, ⟨%d', Hq⟩⟩
  unfold Dat.owesAt Pipeline.owesWithin
  icases Ho with ⟨%W, %hW, Ho⟩
  rw [show (dats m 0 c).owed (t0_0 : Fin cfg0.N).castSucc = owed0 c from rfl,
    show (dats m 0 c).before (0 : Fin 2) t0_0 d = arg m c by unfold Dat.before; rw [if_pos fetch_arg]; rfl]
  ihave H := (body_ready m c) $$ [Hb Ho Hx Hq]
  · isplitl [Hb]; · iexact Hb
    isplitl [Hx]; · unfold argHeld; iexact Hx
    isplitl [Hq]; · iexists _; iexact Hq
    unfold owing; iexists W; iexact Ho
  icases H with ⟨%K, H⟩
  unfold runs
  iapply (wp_wand_r frame (wpE (defs₀ (F := F)) 𝒱₀ (c : Thread nD τ) none))
  isplitl [H]
  · iapply (body_runs m K c); iexact H
  iintro %_ H
  unfold bodyOut argHeld owing pointPost after Dat.owesAt Pipeline.owesWithin
  icases H with ⟨Hx, Hq, ⟨%W', Ho⟩, Hc, Hz⟩
  isplitl [Hc Hz]
  · isplitl [Hc]; · iexact Hc
    iexact Hz
  isplitl [Ho]
  · iexists W'
    isplitr; · ipureintro; exact fun _ _ => Or.inl trivial
    rw [show (dats m 0 c).owed (t0_0 : Fin cfg0.N).succ = 0 from rfl]
    iexact Ho
  isplitl [Hx]; · iexact Hx
  iexact Hq

set_option maxRecDepth 8000 in
theorem body_obligation (c : Dev nD) : BodyObligation (dats (F := F) m 0 c) (defs₀ (F := F)) 𝒱₀ () Set.univ := fun t => by
  rw [show t = t0_0 from fin_N0 t, bigSep_W0, bigSep_W0]
  show pointPre m c ⊢ runs (F := F) c (cc0_body (F := F) xRef (Memref.isWhole_whole _) oRef (Memref.isWhole_whole _) (Memref.whole cc0_scratch0)
    (Memref.isWhole_whole _) (Memref.whole cc0_scratch1) (Memref.isWhole_whole _) cc0_scratch2 cc0_scratch3 cc0_scratch4 cc0_scratch5) (fun _ => pointPost m c)
  rw [body_printed]
  exact point m c

/-! ## The launch -/

theorem owns_whole_eq (c : Dev nD) (b : Ref sig .tc) :
    (iprop(∃ X, owns (c : Thread nD τ) (Memref.whole b) fullShare X) : sProp 𝕄)
      ⊣⊢ iprop(∃ f : Buf (Elt F) ((c : Thread nD τ).loc b), ((c : Thread nD τ).loc b) ↦{fullShare} f) := by
  unfold owns; simp only [Memref.view_whole, View.read_whole, View.set_whole]
  constructor
  · iintro ⟨%X, %f, -, H⟩; iexists f; iexact H
  · iintro ⟨%f, H⟩; iexists f; iexists f; isplitr; · ipureintro; rfl
    iexact H

theorem comms_eq (c : Dev nD) :
    comms (F := F) c ⊣⊢ (Pipeline.scopedRest (Ix := Unit) (Name := ℕ) (U := UAll) (Lvl := ℕ) (Val := Elt F) cfg0.spec c : sProp 𝕄) := by
  rw [show (Pipeline.scopedRest (Ix := Unit) (Name := ℕ) (U := UAll) (Lvl := ℕ) (Val := Elt F) cfg0.spec c : sProp 𝕄) = _ from scopedRest0_eq c]
  exact ⟨BIClass.sep_mono (owns_whole_eq c cc0_scratch0).1 (owns_whole_eq c cc0_scratch1).1,
    BIClass.sep_mono (owns_whole_eq c cc0_scratch0).2 (owns_whole_eq c cc0_scratch1).2⟩

theorem start_intro (c : Dev nD) :
    iprop(Pipeline.unscopedRestP Pipeline.Prefetch.none cfg0.spec c (fun b => m ((c : Thread nD τ).loc b)) ∗ levAts idx level
        ∗ Pipeline.launchCred owed0 c ∗ prngReg c (ρ c) ∗ granted m c)
      ⊢ |={Set.univ}=> iprop(start m c ∗ emp) := by
  iintro ⟨-, Hl, Hc, -, Hg⟩
  ihave Hc := (creds (F := F) c) $$ Hc
  imodintro
  unfold start
  isplitl
  · isplitl [Hg]; · iexact Hg
    isplitl [Hc]; · iexact Hc
    iexact Hl
  · iempintro

theorem enter_point (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl]
  unfold before
  iintro ⟨Hs, -, Hr⟩
  isplitl [Hs]; · iexact Hs
  iapply (comms_eq c).2
  iexact Hr

theorem leave_point (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after c from rfl]
  unfold after
  rw [← quiet_eq]
  iintro ⟨Hr, Ho, Hu⟩
  isplitl [Hu]; · iexact Hu
  isplitl [Ho]; · iexact Ho
  iapply (comms_eq c).1
  iexact Hr

theorem waits (c : Dev nD) : (levAts idx level : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What device `c`'s arrays hold after the run. -/
def finalA (c : Dev nD) (w : Fin cfg0.W) : Buf (Elt F) ((cfg0.win w).arr.view.loc (c : Thread nD τ)) := (dats m 0 c).arrAt w cfg0.N

set_option maxRecDepth 8000 in
/-- From any memory with all semaphores at zero every fair execution terminates, with the arrays at `finalA` and all
    semaphores at zero again. -/
theorem run_main :
    θ_run defs (onTc (τ := τ) (main (F := F))) ⟨m, fun _ => 0, ρ⟩
      (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EPipe defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed0) (howed₀ := fun _ => rfl) (howedN := fun _ => rfl)
    (L := idx) (lv := level) (hL := idx_of_ne) (hwaits := waits m)
    (G := dealt m) (G' := granted m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter_point m) (hout := leave_point m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is as it was, -/
theorem final_arg (c : Dev nD) : finalA m c (0 : Fin 2) = m ((c : Thread nD τ).loc main_arg0) :=
  (dats (F := F) m 0 c).arrAt_in (0 : Fin 2) rfl _

end Cert.RingKernelIdeal

end

end
-- ==== Proof.KernelIdeal.Final.lean ====
/-
# What the arrays hold after the run

Each window is its whole array, moved once. So the argument a device computes with is its argument array, and its result
array ends holding the result block that the rings wrote.
-/
module

public import proofs.«01_k».proof.Proof.KernelIdeal.Run
public import Idealize.ShloMosaic.Lib.Pipeline.ValueKit.Geometry

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAll ℕ

variable (m : (ℓ : Loc nD τ sig) → Buf (Elt F) ℓ)

/-- The staged argument of a device is its argument array. -/
theorem arg_apply (c : Dev nD) (i : S1x1024x2048.Idx) : arg m c i = m ((c : Thread nD τ).loc main_arg0) i := by
  have hz : (fun a => (win0_0.index (0 : Fin 1)) a * main_arg0.ty.shape.size a) = fun _ => 0 := funext fun a => by fin_cases a <;> decide
  unfold arg
  rw [Memref.read_access_unit_zero (Elt F) main_arg0 hz (fun a => by fin_cases a <;> decide)]

/-- The result array of a device ends holding its result block. -/
theorem final_result (c : Dev nD) : finalA m c (1 : Fin 2) = result m c :=
  (dats (F := F) m 0 c).arrAt_eq_of_after_last (1 : Fin 2) t0_0 (by decide +kernel) (result m c) fun _ => rfl

end Cert.RingKernelIdeal

end

end
-- ==== Proof.KernelIdeal.Value.lean ====
/-
# The value of the kernel over the extended reals

Over the extended reals a change of format is the identity and the order of a sum does not matter. So the result block of
device `c` at row `r` and column `k` is the sum, over all devices, of their argument blocks at row `r` and column
`512 c + k`.
-/
module

public import proofs.«01_k».proof.Proof.KernelIdeal.Final
public import Idealize.ShloMosaic.PureOps.Ideal
public import Idealize.ShloMosaic.PureOps.Ideal.Laws

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## One step of a ring, entry by entry -/

/-- The entry of a half slot that is entry `y` of it without its leading axis. -/
def entry (y : S512x256.Idx) : S1x512x256.Idx := Fin.cons ⟨0, Nat.one_pos⟩ y

theorem flatten_apply (x : S1x512x256.Idx → EReal) (y : S512x256.Idx) :
    shapeCast S512x256 x shapeCasts_S1x512x256_S512x256 y = x (entry y) :=
  shapeCast_dropUnit_apply ![512, 256] x _ y

theorem unflatten_apply (x : S512x256.Idx → EReal) (y : S512x256.Idx) :
    shapeCast S1x512x256 x shapeCasts_S512x256_S1x512x256 (entry y) = x y :=
  shapeCast_addUnit_apply ![512, 256] x _ (entry y)

/-- Storing a piece keeps its entries; -/
theorem val0_apply (x : Vec Ideal S1x512x256 .bf16) (y : S512x256.Idx) : (val0 x (entry y) : EReal) = x (entry y) :=
  (unflatten_apply _ y).trans (flatten_apply x y)

/-- adding a piece to a partial sum adds the entries; -/
theorem val1_apply (p x : Vec Ideal S1x512x256 .bf16) (y : S512x256.Idx) :
    (val1 p x (entry y) : EReal) = (p (entry y) : EReal) + x (entry y) :=
  (unflatten_apply _ y).trans (congrArg₂ (fun a b : EReal => a + b) (flatten_apply p y) (flatten_apply x y))

/-- and so does the last addition, at the wider type. -/
theorem val2_apply (p x : Vec Ideal S1x512x256 .bf16) (y : S512x256.Idx) :
    (val2 p x y : EReal) = (p (entry y) : EReal) + x (entry y) :=
  congrArg₂ (fun a b : EReal => a + b) (flatten_apply p y) (flatten_apply x y)

/-! ## The columns a ring adds up -/

/-- The column of the argument that belongs to column `k` of device `c`'s result. -/
def column (c : Dev nD) (k : ℕ) (hk : k < 512) : Fin 2048 :=
  ⟨512 * c.val + k, by have h : c.val < 4 := c.isLt; omega⟩

/-- The entry of an argument block at a row and a column. -/
def place3 (r : Fin 1024) (k : Fin 2048) : S1x1024x2048.Idx
  | ⟨0, _⟩ => ⟨0, Nat.one_pos⟩
  | ⟨1, _⟩ => r
  | ⟨2, _⟩ => k

variable (m : (ℓ : Loc nD τ sig) → Buf (Elt Ideal) ℓ)

/-- The argument of device `d` at a row and a column. -/
def argAt (d : Dev nD) (r : Fin 1024) (k : Fin 2048) : EReal := m ((d : Thread nD τ).loc main_arg0) (place3 r k)

/-- The device from which ring `σ` brings a sum to `c` in `n` hops. -/
def back (σ : Bool) (n : ℕ) (c : Dev nD) : Dev nD := (nb (!σ))^[n] c

/-- The piece that ring `σ` takes at hop `h` on the device `3 - h` hops before `c` lies in the columns of `c`. -/
theorem due (σ : Bool) (h : Fin 4) (c : Dev nD) :
    ((back σ (3 - h.val) c).val + (if σ then 1 + h.val else 3 - h.val)) % 4 = c.val := by revert σ h c; decide

theorem row_lt (j : Fin 2) (y : S512x256.Idx) : 512 * j.val + (y 0).val < 1024 := by
  have h0 : (y 0).val < 512 := (y 0).isLt
  omega
theorem col_lt (σ : Bool) (y : S512x256.Idx) : 256 * σ.toNat + (y 1).val < 512 := by
  have h1 : (y 1).val < 256 := (y 1).isLt
  have hs : σ.toNat ≤ 1 := Bool.toNat_le σ
  omega

theorem piece_apply (σ : Bool) (h : Fin 4) (j : Fin 2) (c : Dev nD) (y : S512x256.Idx) :
    (piece m σ h.val j (back σ (3 - h.val) c) (entry y) : EReal)
      = argAt m (back σ (3 - h.val) c) ⟨_, row_lt j y⟩ (column c _ (col_lt σ y)) := by
  have e : (xRect (off σ h.val j (back σ (3 - h.val) c)) (off_inb σ h.val j (back σ (3 - h.val) c))).emb (entry y)
      = place3 ⟨_, row_lt j y⟩ (column c _ (col_lt σ y)) := by
    funext a
    refine Fin.ext ((ValueKit.rect_emb_unit_val _ _ _ _ a).trans ?_)
    fin_cases a
    · rfl
    · rfl
    · show 512 * (((back σ (3 - h.val) c).val + (if σ then 1 + h.val else 3 - h.val)) % 4) + 256 * σ.toNat + (y 1).val = 512 * c.val + (256 * σ.toNat + (y 1).val)
      rw [due, Nat.add_assoc]
  show arg m (back σ (3 - h.val) c) _ = _
  rw [arg_apply]
  exact congrArg (m (((back σ (3 - h.val) c : Dev nD) : Thread nD τ).loc main_arg0)) e

/-- Going round a ring visits every device once. -/
theorem sum_round (f : Dev nD → EReal) (σ : Bool) (c : Dev nD) :
    f (back σ 3 c) + f (back σ 2 c) + f (back σ 1 c) + f (back σ 0 c) = ∑ d : Dev nD, f d := by
  rw [show (∑ d : Dev nD, f d) = f 0 + f 1 + f 2 + f 3 from Fin.sum_univ_four f]
  have key : ∀ (σ : Bool) (c : Dev nD), ({back σ 3 c, back σ 2 c, back σ 1 c, back σ 0 c} : Multiset (Dev nD)) = {0, 1, 2, 3} := by decide
  have := congrArg (fun s => (Multiset.map f s).sum) (key σ c)
  simpa [add_assoc] using this

/-- A quarter of the result, entry by entry: the sum over all devices. -/
theorem quarter_apply (σ : Bool) (j : Fin 2) (c : Dev nD) (y : S512x256.Idx) :
    (quarter m σ j c y : EReal) = ∑ d : Dev nD, argAt m d ⟨_, row_lt j y⟩ (column c _ (col_lt σ y)) := by
  have p (h : Fin 4) := piece_apply m σ h j c y
  rw [← sum_round _ σ c]
  refine (val2_apply _ _ y).trans (congrArg₂ (fun a b : EReal => a + b) ?_ (p 3))
  refine (val1_apply _ _ y).trans (congrArg₂ (fun a b : EReal => a + b) ?_ (p 2))
  refine (val1_apply _ _ y).trans (congrArg₂ (fun a b : EReal => a + b) ?_ (p 1))
  exact (val0_apply _ y).trans (p 0)

/-- The result block, entry by entry. -/
theorem result_apply (c : Dev nD) (i : S1024x512.Idx) :
    (result m c i : EReal) = ∑ d : Dev nD, argAt m d (i 0) (column c (i 1).val (i 1).isLt) := by
  obtain ⟨y, hy⟩ := (quarterOf (laneOf i)).exists_idx_of_mem (mem_quarterOf i)
  have e : ∀ a, (i a).val = (![512 * (laneOf i).2.val, 256 * (laneOf i).1.toNat] : Fin 2 → ℕ) a + (y a).val := fun a =>
    (congrArg (fun z : S1024x512.Idx => (z a).val) hy).symm.trans (ValueKit.rect_emb_unit_val _ _ _ y a)
  refine (congrArg (result m c) hy).symm.trans ((result_emb m c (laneOf i) y).trans ((quarter_apply m _ _ c y).trans ?_))
  refine Finset.sum_congr rfl fun d _ => ?_
  have h0 : i 0 = ⟨512 * (laneOf i).2.val + (y 0).val, row_lt _ y⟩ := Fin.ext (e 0)
  have h1 : column c (i 1).val (i 1).isLt = column c _ (col_lt (laneOf i).1 y) := Fin.ext (congrArg (512 * c.val + ·) (e 1))
  rw [h1]
  exact congrArg (fun r => argAt m d r _) h0.symm

end Cert.RingKernelIdeal

end

end
-- ==== Proof.Reference.lean ====
/-
# The value of the reference over the extended reals

The reference adds the whole array up over its first axis, at the wider type; rounds the sum to the narrower type, and
widens it for the comparison. Over the extended reals these changes of type are the identity, so entry `(r, k)` of its
result is the sum of the entries `(d, r, k)`.
-/
module

public import proofs.«01_k».proof.Proof.Gen.ReferenceIdeal.Run
public import Idealize.ShloMosaic.PureOps.Ideal
public import Idealize.ShloMosaic.PureOps.Ideal.Laws
public import Idealize.ShloMosaic.Lib.IdealHost

@[expose] public section

noncomputable section

namespace Cert.RingReference

open Cert.ReferenceIdeal Cert.ReferenceIdeal.Gen
open Idealize.ShloMosaic Idealize.ShloMosaic.TcCoe Idealize.SL.Sem

/-- Entry `(d, r, k)` of the whole array. -/
def place4 (d : Fin 4) (r : Fin 1024) (k : Fin 2048) : S4x1024x2048.Idx
  | ⟨0, _⟩ => d
  | ⟨1, _⟩ => r
  | ⟨2, _⟩ => k

/-- The reference's result as a function of its argument. -/
def total (x : S4x1024x2048.Idx → EReal) : S1024x2048.Idx → EReal := fun i => ∑ d : Fin 4, x (place4 d (i 0) (i 1))

theorem reduces_rows : S4x1024x2048.Reduces [0] S1024x2048 := by decide

/-- What the reference's operations compute is `total`. -/
theorem reduced (x : FVec Ideal S4x1024x2048 .bf16) :
    (extf .f32 (truncf .bf16 (Host.reduceAdd (extf .f32 x bitsLt_bf16_f32 : FVec Ideal S4x1024x2048 .f32)
      (constant S_ .f32 0x00000000#32) reducesTo_S4x1024x2048_S1024x2048_d0 h_S_) bitsLt_bf16_f32 : FVec Ideal S1024x2048 .bf16)
      bitsLt_bf16_f32 : FVec Ideal S1024x2048 .f32) = total x := by
  funext i
  rw [show extf (F := Ideal) .f32 (truncf (F := Ideal) .bf16 (Host.reduceAdd (extf .f32 x bitsLt_bf16_f32 : FVec Ideal S4x1024x2048 .f32)
      (constant S_ .f32 0x00000000#32) reducesTo_S4x1024x2048_S1024x2048_d0 h_S_) bitsLt_bf16_f32) bitsLt_bf16_f32 i
    = Ideal.hostReduceAdd reducesTo_S4x1024x2048_S1024x2048_d0 x (constant (F := Ideal) S_ .f32 0x00000000#32 (Shape.Idx.first h_S_)) i from rfl]
  refine (Ideal.hostReduceAdd_single reducesTo_S4x1024x2048_S1024x2048_d0 reduces_rows _ _ i).trans ?_
  have h0 : (constant (F := Ideal) S_ .f32 0x00000000#32 (Shape.Idx.first h_S_) : EReal) = 0 := Ideal.ofBits_zero_f32
  refine (congrArg (· + _) h0).trans ((zero_add _).trans ?_)
  refine Finset.sum_congr rfl fun d _ => congrArg x ?_
  funext a
  fin_cases a <;> rfl

/-- The reference ends with its result at `total` of its argument, and its argument as it was. -/
theorem run_total (m : (ℓ : Loc nD τ sig) → Buf (Elt Ideal) ℓ) (ρ : Dev nD → PrngReg) :
    θ_run (defs (F := Ideal)) (onTc (τ := τ) (main (F := Ideal))) ⟨m, fun _ => 0, ρ⟩ fun r =>
      r.2.mem (((0 : Dev nD) : Thread nD τ).loc main_v3) = total (m (((0 : Dev nD) : Thread nD τ).loc main_arg0))
      ∧ r.2.mem (((0 : Dev nD) : Thread nD τ).loc main_arg0) = m (((0 : Dev nD) : Thread nD τ).loc main_arg0) :=
  (θ_run defs _ _).mono (fun _ h => ⟨(h 0).1.trans (reduced _), (h 0).2⟩) (Value.run m ρ)

end Cert.RingReference

end

end
-- ==== Proof.Equation.lean ====
/-
# The kernel's result blocks are the reference's result, cut

Device `c` holds the member `c` of the whole argument, and its result block is the columns from `512 c` on of the sum over
all members.
-/
module

public import proofs.«01_k».proof.Proof.KernelIdeal.Value
public import proofs.«01_k».proof.Proof.Reference
public import Idealize.ShloMosaic.Lib.Layout

@[expose] public section

noncomputable section

namespace Cert.RingEquation

open Cert.KernelIdeal Cert.RingKernelIdeal Cert.RingReference
open Idealize.ShloMosaic Idealize.ShloMosaic.TcCoe Idealize.SL.Sem

variable (m : (ℓ : Loc nD τ sig) → Buf (Elt Ideal) ℓ) (x : Cert.ReferenceIdeal.S4x1024x2048.Idx → EReal)

/-- If every device holds its member of `x`, the result block of device `c` is block `c` of the sum of `x`. -/
theorem result_block
    (hx : ∀ d : Dev nD, m ((d : Thread nD τ).loc main_arg0) = Layout.block ⟨3, ![1, 1024, 2048]⟩ ⟨3, ![4, 1024, 2048]⟩ 0 4 d x) (c : Dev nD) :
    result m c = Layout.block ⟨2, ![1024, 512]⟩ ⟨2, ![1024, 2048]⟩ 1 4 c (total x) := by
  funext i
  refine (result_apply m c i).trans ?_
  rw [Layout.block_apply]
  unfold total
  refine Finset.sum_congr rfl fun d _ => ?_
  unfold argAt
  rw [hx d, Layout.block_apply]
  refine congrArg x (funext fun a => Fin.ext ?_)
  rw [Layout.Tiles.idx_val]
  fin_cases a
  · show d.val * 1 + 0 = d.val
    omega
  · rfl
  · show 512 * c.val + (i 1).val = c.val * 512 + (i 1).val
    omega

end Cert.RingEquation

end

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kernel.Final
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel terminates without fault, with its argument as it was and every semaphore at zero. -/
theorem frame_kernel : Cert.quiescent_Kernel (hKernel := Cert.Kernel.Gen.facts) := fun m ρ _ =>
  (θ_run Cert.Kernel.defs _ _).mono (fun _ h => ⟨fun c => (h.1 c (0 : Fin 2)).trans (Cert.RingKernel.final_arg m c), h.2⟩)
    (Cert.RingKernel.run_main (F := Bits) m ρ)

/-- So does the kernel over the extended reals. -/
theorem frame_ideal : Cert.quiescent_KernelIdeal (hKernelIdeal := Cert.KernelIdeal.Gen.facts) := fun m ρ _ =>
  (θ_run Cert.KernelIdeal.defs _ _).mono (fun _ h => ⟨fun c => (h.1 c (0 : Fin 2)).trans (Cert.RingKernelIdeal.final_arg m c), h.2⟩)
    (Cert.RingKernelIdeal.run_main (F := Ideal) m ρ)

/-- So does the reference, which has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device of the kernel ends with its block of the reference's result. -/
theorem same_sum : Cert.algebraic_KernelIdeal_ReferenceIdeal (hKernelIdeal := Cert.KernelIdeal.Gen.facts)
    (hReferenceIdeal := Cert.ReferenceIdeal.Gen.facts) := fun m ρ m' ρ' _ hx =>
  ⟨Cert.RingReference.total (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨((h.1 c (1 : Fin 2)).trans (Cert.RingKernelIdeal.final_result m c)).trans (Cert.RingEquation.result_block m _ hx c),
        (h.1 c (0 : Fin 2)).trans (Cert.RingKernelIdeal.final_arg m c)⟩)
      (Cert.RingKernelIdeal.run_main (F := Ideal) m ρ),
    Cert.RingReference.run_total m' ρ'⟩

/-- All five claims. -/
theorem claim : Cert.Claim :=
  ⟨Cert.Kernel.Gen.facts, Cert.KernelIdeal.Gen.facts, Cert.ReferenceIdeal.Gen.facts, frame_kernel, frame_ideal, frame_reference, trivial, same_sum⟩

end Cert.Proof

end
